-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_prompt_scores [hPre_finite_prompt_scores : Cert.Pre_finite_prompt_scores.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_prompt_scores.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).1 = (fun _ => 1#1)
    ∧ (Cert.Pre_finite_prompt_scores.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).2.1 = (fun _ => 1#1)
    ∧ (Cert.Pre_finite_prompt_scores.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_prompt_scores [hPre_finite_prompt_scores : Cert.Pre_finite_prompt_scores.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_prompt_scores.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).1 = (fun _ => 1#1)
    ∧ (Cert.Pre_finite_prompt_scores.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).2.1 = (fun _ => 1#1)
    ∧ (Cert.Pre_finite_prompt_scores.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_sink_scores [hPre_finite_sink_scores : Cert.Pre_finite_sink_scores.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_sink_scores.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))).1 = (fun _ => 1#1)
    ∧ (Cert.Pre_finite_sink_scores.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))).2.1 = (fun _ => 1#1)
    ∧ (Cert.Pre_finite_sink_scores.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))).2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_sink_scores [hPre_finite_sink_scores : Cert.Pre_finite_sink_scores.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_sink_scores.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))).1 = (fun _ => 1#1)
    ∧ (Cert.Pre_finite_sink_scores.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))).2.1 = (fun _ => 1#1)
    ∧ (Cert.Pre_finite_sink_scores.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))).2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel12Ideal_pre_finite_prompt_scores [hKernel12Ideal : Cert.Kernel12Ideal.Facts] [hPre_finite_prompt_scores : Cert.Pre_finite_prompt_scores.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_prompt_scores m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Reference12Ideal_pre_finite_prompt_scores [hReference12Ideal : Cert.Reference12Ideal.Facts] [hPre_finite_prompt_scores : Cert.Pre_finite_prompt_scores.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_prompt_scores m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Kernel13Ideal_pre_finite_sink_scores [hKernel13Ideal : Cert.Kernel13Ideal.Facts] [hPre_finite_sink_scores : Cert.Pre_finite_sink_scores.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_sink_scores m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Reference13Ideal_pre_finite_sink_scores [hReference13Ideal : Cert.Reference13Ideal.Facts] [hPre_finite_sink_scores : Cert.Pre_finite_sink_scores.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_sink_scores m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_v31) = v1 c
          ∧ r.2.mem ((c.tc : Thread Cert.Reference7Ideal.nD Cert.Reference7Ideal.τ).loc Cert.Reference7Ideal.main_v32) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v39) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v6)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal_pre_finite_prompt_scores [hKernel12Ideal : Cert.Kernel12Ideal.Facts] [hReference12Ideal : Cert.Reference12Ideal.Facts] [hPre_finite_prompt_scores : Cert.Pre_finite_prompt_scores.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_prompt_scores m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v35) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal_pre_finite_sink_scores [hKernel13Ideal : Cert.Kernel13Ideal.Facts] [hReference13Ideal : Cert.Reference13Ideal.Facts] [hPre_finite_sink_scores : Cert.Pre_finite_sink_scores.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_sink_scores m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v30) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v33) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v33) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite_scores : Cert.Pre_finite_scores.Facts) (hPre_finite_prompt_scores : Cert.Pre_finite_prompt_scores.Facts) (hPre_finite_sink_scores : Cert.Pre_finite_sink_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite_prompt_scores (hKernel12Ideal := hKernel12Ideal) (hPre_finite_prompt_scores := hPre_finite_prompt_scores)
    ∧ quiescent_Reference12Ideal (hReference12Ideal := hReference12Ideal)
    ∧ quiescent_Reference12Ideal_pre_finite_prompt_scores (hReference12Ideal := hReference12Ideal) (hPre_finite_prompt_scores := hPre_finite_prompt_scores)
    ∧ quiescent_Kernel13 (hKernel13 := hKernel13)
    ∧ quiescent_Kernel13Ideal (hKernel13Ideal := hKernel13Ideal)
    ∧ quiescent_Kernel13Ideal_pre_finite_sink_scores (hKernel13Ideal := hKernel13Ideal) (hPre_finite_sink_scores := hPre_finite_sink_scores)
    ∧ quiescent_Reference13Ideal (hReference13Ideal := hReference13Ideal)
    ∧ quiescent_Reference13Ideal_pre_finite_sink_scores (hReference13Ideal := hReference13Ideal) (hPre_finite_sink_scores := hPre_finite_sink_scores)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite_prompt_scores (hKernel12Ideal := hKernel12Ideal) (hReference12Ideal := hReference12Ideal) (hPre_finite_prompt_scores := hPre_finite_prompt_scores)
    ∧ preserves_Kernel13_Kernel13Ideal
    ∧ algebraic_Kernel13Ideal_Reference13Ideal_pre_finite_sink_scores (hKernel13Ideal := hKernel13Ideal) (hReference13Ideal := hReference13Ideal) (hPre_finite_sink_scores := hPre_finite_sink_scores)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite_prompt_scores.lean ====
abbrev S6144x3072 : Shape := ⟨2, ![6144, 3072]⟩
abbrev S6656x4096 : Shape := ⟨2, ![6656, 4096]⟩
abbrev S6144x64 : Shape := ⟨2, ![6144, 64]⟩
abbrev S4096x3072 : Shape := ⟨2, ![4096, 3072]⟩
abbrev S_ : Shape := ⟨0, ![]⟩
abbrev S4096x2048 : Shape := ⟨2, ![4096, 2048]⟩
abbrev S4096x64 : Shape := ⟨2, ![4096, 64]⟩

class Facts : Prop where
  slices_S6144x3072_S4096x3072_0_0 : S6144x3072.Slices ![0, 0] S4096x3072
  bitsLt_bf16_f32 : FTy.bits .bf16 < FTy.bits .f32
  bcast_S_S4096x3072 : S_.BroadcastsInDim S4096x3072 (![] : Fin 0 → Fin S4096x3072.rank)
  slices_S6656x4096_S4096x2048_0_0 : S6656x4096.Slices ![0, 0] S4096x2048
  bcast_S_S4096x2048 : S_.BroadcastsInDim S4096x2048 (![] : Fin 0 → Fin S4096x2048.rank)
  slices_S6144x64_S4096x64_0_0 : S6144x64.Slices ![0, 0] S4096x64
  bcast_S_S4096x64 : S_.BroadcastsInDim S4096x64 (![] : Fin 0 → Fin S4096x64.rank)

variable [Facts]

def fn_part1 {F : FTy → Type} [FloatOps F] (main_v6 : IVec S4096x3072 1) (main_v13 : IVec S4096x2048 1) (main_v14 : FVec F S4096x64 .f32) (main_v16 : IVec S4096x64 1) (main_v17 : FVec F S4096x64 .f32) : IVec S4096x3072 1 × IVec S4096x2048 1 × IVec S4096x64 1 :=
  let main_v18 : IVec S4096x64 1 := cmpf .olt main_v14 main_v17
  let main_v19 : IVec S4096x64 1 := andi main_v16 main_v18
  (main_v6, main_v13, main_v19)

def fn {F : FTy → Type} [FloatOps F] (main_arg0 : FVec F S6144x3072 .bf16) (main_arg1 : FVec F S6656x4096 .bf16) (main_arg2 : FVec F S6144x64 .f32) : IVec S4096x3072 1 × IVec S4096x2048 1 × IVec S4096x64 1 :=
  let main_v0 : FVec F S4096x3072 .bf16 := (extractStridedSlice S4096x3072 ![0, 0] · slices_S6144x3072_S4096x3072_0_0) main_arg0
  let main_v1 : FVec F S4096x3072 .f32 := (extf .f32 · bitsLt_bf16_f32) main_v0
  let main_cst : FVec F S_ .f32 := constant S_ .f32 0xFF800000#32
  let main_v2 : FVec F S4096x3072 .f32 := broadcastInDim S4096x3072 ![] bcast_S_S4096x3072 main_cst
  let main_v3 : IVec S4096x3072 1 := cmpf .ogt main_v1 main_v2
  let main_cst_0 : FVec F S_ .f32 := constant S_ .f32 0x7F800000#32
  let main_v4 : FVec F S4096x3072 .f32 := broadcastInDim S4096x3072 ![] bcast_S_S4096x3072 main_cst_0
  let main_v5 : IVec S4096x3072 1 := cmpf .olt main_v1 main_v4
  let main_v6 : IVec S4096x3072 1 := andi main_v3 main_v5
  let main_v7 : FVec F S4096x2048 .bf16 := (extractStridedSlice S4096x2048 ![0, 0] · slices_S6656x4096_S4096x2048_0_0) main_arg1
  let main_v8 : FVec F S4096x2048 .f32 := (extf .f32 · bitsLt_bf16_f32) main_v7
  let main_cst_1 : FVec F S_ .f32 := constant S_ .f32 0xFF800000#32
  let main_v9 : FVec F S4096x2048 .f32 := broadcastInDim S4096x2048 ![] bcast_S_S4096x2048 main_cst_1
  let main_v10 : IVec S4096x2048 1 := cmpf .ogt main_v8 main_v9
  let main_cst_2 : FVec F S_ .f32 := constant S_ .f32 0x7F800000#32
  let main_v11 : FVec F S4096x2048 .f32 := broadcastInDim S4096x2048 ![] bcast_S_S4096x2048 main_cst_2
  let main_v12 : IVec S4096x2048 1 := cmpf .olt main_v8 main_v11
  let main_v13 : IVec S4096x2048 1 := andi main_v10 main_v12
  let main_v14 : FVec F S4096x64 .f32 := (extractStridedSlice S4096x64 ![0, 0] · slices_S6144x64_S4096x64_0_0) main_arg2
  let main_cst_3 : FVec F S_ .f32 := constant S_ .f32 0xFF800000#32
  let main_v15 : FVec F S4096x64 .f32 := broadcastInDim S4096x64 ![] bcast_S_S4096x64 main_cst_3
  let main_v16 : IVec S4096x64 1 := cmpf .ogt main_v14 main_v15
  let main_cst_4 : FVec F S_ .f32 := constant S_ .f32 0x7F800000#32
  let main_v17 : FVec F S4096x64 .f32 := broadcastInDim S4096x64 ![] bcast_S_S4096x64 main_cst_4
  fn_part1 (F := F) main_v6 main_v13 main_v14 main_v16 main_v17
-- ==== Pre_finite_scores.lean ====
abbrev S6144x3072 : Shape := ⟨2, ![6144, 3072]⟩
abbrev S2048x1024 : Shape := ⟨2, ![2048, 1024]⟩
abbrev S6656x4096 : Shape := ⟨2, ![6656, 4096]⟩
abbrev S2048x64 : Shape := ⟨2, ![2048, 64]⟩
abbrev S2x256x64 : Shape := ⟨3, ![2, 256, 64]⟩
abbrev S2048x2048 : Shape := ⟨2, ![2048, 2048]⟩
abbrev S_ : Shape := ⟨0, ![]⟩
abbrev S2560x2048 : Shape := ⟨2, ![2560, 2048]⟩

class Facts : Prop where
  slices_S6144x3072_S2048x2048_4096_0 : S6144x3072.Slices ![4096, 0] S2048x2048
  bitsLt_bf16_f32 : FTy.bits .bf16 < FTy.bits .f32
  bcast_S_S2048x2048 : S_.BroadcastsInDim S2048x2048 (![] : Fin 0 → Fin S2048x2048.rank)
  bcast_S_S2048x1024 : S_.BroadcastsInDim S2048x1024 (![] : Fin 0 → Fin S2048x1024.rank)
  slices_S6656x4096_S2560x2048_4096_0 : S6656x4096.Slices ![4096, 0] S2560x2048
  bcast_S_S2560x2048 : S_.BroadcastsInDim S2560x2048 (![] : Fin 0 → Fin S2560x2048.rank)
  bcast_S_S2048x64 : S_.BroadcastsInDim S2048x64 (![] : Fin 0 → Fin S2048x64.rank)
  bcast_S_S2x256x64 : S_.BroadcastsInDim S2x256x64 (![] : Fin 0 → Fin S2x256x64.rank)

variable [Facts]

def fn_part1 {F : FTy → Type} [FloatOps F] (main_arg3 : FVec F S2048x64 .bf16) (main_arg4 : FVec F S2x256x64 .f32) (main_v6 : IVec S2048x2048 1) (main_v12 : IVec S2048x1024 1) (main_v14 : FVec F S2560x2048 .f32) (main_v16 : IVec S2560x2048 1) (main_v17 : FVec F S2560x2048 .f32) : IVec S2048x2048 1 × IVec S2048x1024 1 × IVec S2560x2048 1 × IVec S2048x64 1 × IVec S2x256x64 1 :=
  let main_v18 : IVec S2560x2048 1 := cmpf .olt main_v14 main_v17
  let main_v19 : IVec S2560x2048 1 := andi main_v16 main_v18
  let main_v20 : FVec F S2048x64 .f32 := (extf .f32 · bitsLt_bf16_f32) main_arg3
  let main_cst_5 : FVec F S_ .f32 := constant S_ .f32 0xFF800000#32
  let main_v21 : FVec F S2048x64 .f32 := broadcastInDim S2048x64 ![] bcast_S_S2048x64 main_cst_5
  let main_v22 : IVec S2048x64 1 := cmpf .ogt main_v20 main_v21
  let main_cst_6 : FVec F S_ .f32 := constant S_ .f32 0x7F800000#32
  let main_v23 : FVec F S2048x64 .f32 := broadcastInDim S2048x64 ![] bcast_S_S2048x64 main_cst_6
  let main_v24 : IVec S2048x64 1 := cmpf .olt main_v20 main_v23
  let main_v25 : IVec S2048x64 1 := andi main_v22 main_v24
  let main_cst_7 : FVec F S_ .f32 := constant S_ .f32 0xFF800000#32
  let main_v26 : FVec F S2x256x64 .f32 := broadcastInDim S2x256x64 ![] bcast_S_S2x256x64 main_cst_7
  let main_v27 : IVec S2x256x64 1 := cmpf .ogt main_arg4 main_v26
  let main_cst_8 : FVec F S_ .f32 := constant S_ .f32 0x7F800000#32
  let main_v28 : FVec F S2x256x64 .f32 := broadcastInDim S2x256x64 ![] bcast_S_S2x256x64 main_cst_8
  let main_v29 : IVec S2x256x64 1 := cmpf .olt main_arg4 main_v28
  let main_v30 : IVec S2x256x64 1 := andi main_v27 main_v29
  (main_v6, main_v12, main_v19, main_v25, main_v30)

def fn {F : FTy → Type} [FloatOps F] (main_arg0 : FVec F S6144x3072 .bf16) (main_arg1 : FVec F S2048x1024 .bf16) (main_arg2 : FVec F S6656x4096 .bf16) (main_arg3 : FVec F S2048x64 .bf16) (main_arg4 : FVec F S2x256x64 .f32) : IVec S2048x2048 1 × IVec S2048x1024 1 × IVec S2560x2048 1 × IVec S2048x64 1 × IVec S2x256x64 1 :=
  let main_v0 : FVec F S2048x2048 .bf16 := (extractStridedSlice S2048x2048 ![4096, 0] · slices_S6144x3072_S2048x2048_4096_0) main_arg0
  let main_v1 : FVec F S2048x2048 .f32 := (extf .f32 · bitsLt_bf16_f32) main_v0
  let main_cst : FVec F S_ .f32 := constant S_ .f32 0xFF800000#32
  let main_v2 : FVec F S2048x2048 .f32 := broadcastInDim S2048x2048 ![] bcast_S_S2048x2048 main_cst
  let main_v3 : IVec S2048x2048 1 := cmpf .ogt main_v1 main_v2
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v1 main_v4
  let main_v6 : IVec S2048x2048 1 := andi main_v3 main_v5
  let main_v7 : FVec F S2048x1024 .f32 := (extf .f32 · bitsLt_bf16_f32) main_arg1
  let main_cst_1 : FVec F S_ .f32 := constant S_ .f32 0xFF800000#32
  let main_v8 : FVec F S2048x1024 .f32 := broadcastInDim S2048x1024 ![] bcast_S_S2048x1024 main_cst_1
  let main_v9 : IVec S2048x1024 1 := cmpf .ogt main_v7 main_v8
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v7 main_v10
  let main_v12 : IVec S2048x1024 1 := andi main_v9 main_v11
  let main_v13 : FVec F S2560x2048 .bf16 := (extractStridedSlice S2560x2048 ![4096, 0] · slices_S6656x4096_S2560x2048_4096_0) main_arg2
  let main_v14 : FVec F S2560x2048 .f32 := (extf .f32 · bitsLt_bf16_f32) main_v13
  let main_cst_3 : FVec F S_ .f32 := constant S_ .f32 0xFF800000#32
  let main_v15 : FVec F S2560x2048 .f32 := broadcastInDim S2560x2048 ![] bcast_S_S2560x2048 main_cst_3
  let main_v16 : IVec S2560x2048 1 := cmpf .ogt main_v14 main_v15
  let main_cst_4 : FVec F S_ .f32 := constant S_ .f32 0x7F800000#32
  let main_v17 : FVec F S2560x2048 .f32 := broadcastInDim S2560x2048 ![] bcast_S_S2560x2048 main_cst_4
  fn_part1 (F := F) main_arg3 main_arg4 main_v6 main_v12 main_v14 main_v16 main_v17
-- ==== Pre_finite_sink_scores.lean ====
abbrev S6144x2048 : Shape := ⟨2, ![6144, 2048]⟩
abbrev S6144x1024 : Shape := ⟨2, ![6144, 1024]⟩
abbrev S32 : Shape := ⟨1, ![32]⟩
abbrev S4096x2048 : Shape := ⟨2, ![4096, 2048]⟩
abbrev S_ : Shape := ⟨0, ![]⟩
abbrev S4096x512 : Shape := ⟨2, ![4096, 512]⟩

class Facts : Prop where
  slices_S6144x2048_S4096x2048_0_0 : S6144x2048.Slices ![0, 0] S4096x2048
  bitsLt_bf16_f32 : FTy.bits .bf16 < FTy.bits .f32
  bcast_S_S4096x2048 : S_.BroadcastsInDim S4096x2048 (![] : Fin 0 → Fin S4096x2048.rank)
  slices_S6144x1024_S4096x512_0_0 : S6144x1024.Slices ![0, 0] S4096x512
  bcast_S_S4096x512 : S_.BroadcastsInDim S4096x512 (![] : Fin 0 → Fin S4096x512.rank)
  bcast_S_S32 : S_.BroadcastsInDim S32 (![] : Fin 0 → Fin S32.rank)

variable [Facts]

def fn {F : FTy → Type} [FloatOps F] (main_arg0 : FVec F S6144x2048 .bf16) (main_arg1 : FVec F S6144x1024 .f32) (main_arg2 : FVec F S32 .f32) : IVec S4096x2048 1 × IVec S4096x512 1 × IVec S32 1 :=
  let main_v0 : FVec F S4096x2048 .bf16 := (extractStridedSlice S4096x2048 ![0, 0] · slices_S6144x2048_S4096x2048_0_0) main_arg0
  let main_v1 : FVec F S4096x2048 .f32 := (extf .f32 · bitsLt_bf16_f32) main_v0
  let main_cst : FVec F S_ .f32 := constant S_ .f32 0xFF800000#32
  let main_v2 : FVec F S4096x2048 .f32 := broadcastInDim S4096x2048 ![] bcast_S_S4096x2048 main_cst
  let main_v3 : IVec S4096x2048 1 := cmpf .ogt main_v1 main_v2
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v1 main_v4
  let main_v6 : IVec S4096x2048 1 := andi main_v3 main_v5
  let main_v7 : FVec F S4096x512 .f32 := (extractStridedSlice S4096x512 ![0, 0] · slices_S6144x1024_S4096x512_0_0) main_arg1
  let main_cst_1 : FVec F S_ .f32 := constant S_ .f32 0xFF800000#32
  let main_v8 : FVec F S4096x512 .f32 := broadcastInDim S4096x512 ![] bcast_S_S4096x512 main_cst_1
  let main_v9 : IVec S4096x512 1 := cmpf .ogt main_v7 main_v8
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v7 main_v10
  let main_v12 : IVec S4096x512 1 := andi main_v9 main_v11
  let main_cst_3 : FVec F S_ .f32 := constant S_ .f32 0xFF800000#32
  let main_v13 : FVec F S32 .f32 := broadcastInDim S32 ![] bcast_S_S32 main_cst_3
  let main_v14 : IVec S32 1 := cmpf .ogt main_arg2 main_v13
  let main_cst_4 : FVec F S_ .f32 := constant S_ .f32 0x7F800000#32
  let main_v15 : FVec F S32 .f32 := broadcastInDim S32 ![] bcast_S_S32 main_cst_4
  let main_v16 : IVec S32 1 := cmpf .olt main_arg2 main_v15
  let main_v17 : IVec S32 1 := andi main_v14 main_v16
  (main_v6, main_v12, main_v17)
-- ==== Kernel.lean ====
abbrev S6144x3072 : Shape := ⟨2, ![6144, 3072]⟩
abbrev S2048x1024 : Shape := ⟨2, ![2048, 1024]⟩
abbrev S6656x4096 : Shape := ⟨2, ![6656, 4096]⟩
abbrev S2048x64 : Shape := ⟨2, ![2048, 64]⟩
abbrev S2x256x64 : Shape := ⟨3, ![2, 256, 64]⟩
abbrev S512x64 : Shape := ⟨2, ![512, 64]⟩
abbrev S2048x2048 : Shape := ⟨2, ![2048, 2048]⟩
abbrev S256x2048 : Shape := ⟨2, ![256, 2048]⟩
abbrev S256x1024 : Shape := ⟨2, ![256, 1024]⟩
abbrev S1024x2048 : Shape := ⟨2, ![1024, 2048]⟩
abbrev S1024x64 : Shape := ⟨2, ![1024, 64]⟩
abbrev S256x64 : Shape := ⟨2, ![256, 64]⟩
abbrev S256x128 : Shape := ⟨2, ![256, 128]⟩
abbrev S1024x128 : Shape := ⟨2, ![1024, 128]⟩
abbrev S256x256 : Shape := ⟨2, ![256, 256]⟩
abbrev S256 : Shape := ⟨1, ![256]⟩
abbrev S256x1 : Shape := ⟨2, ![256, 1]⟩

abbrev nBuf : Space → Nat
  | .hbm => 7
  | .vmem => 18
  | .smem => 0
  | _ => 0

abbrev bufTy : (tb : Table) → Fin (tcTables nBuf tb) → BufTy
  | .hbm, ⟨0, _⟩ => ⟨S6144x3072, .bf16⟩
  | .hbm, ⟨1, _⟩ => ⟨S2048x1024, .bf16⟩
  | .hbm, ⟨2, _⟩ => ⟨S6656x4096, .bf16⟩
  | .hbm, ⟨3, _⟩ => ⟨S2048x64, .bf16⟩
  | .hbm, ⟨4, _⟩ => ⟨S2x256x64, .f32⟩
  | .hbm, ⟨5, _⟩ => ⟨S512x64, .f32⟩
  | .hbm, ⟨6, _⟩ => ⟨S2048x2048, .bf16⟩
  | .local _ .vmem, ⟨0, _⟩ => ⟨S256x2048, .bf16⟩
  | .local _ .vmem, ⟨1, _⟩ => ⟨S256x2048, .bf16⟩
  | .local _ .vmem, ⟨2, _⟩ => ⟨S256x1024, .bf16⟩
  | .local _ .vmem, ⟨3, _⟩ => ⟨S256x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x64, .bf16⟩
  | .local _ .vmem, ⟨9, _⟩ => ⟨S1024x64, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x64, .f32⟩
  | .local _ .vmem, ⟨15, _⟩ => ⟨S256x64, .f32⟩
  | .local _ .vmem, ⟨16, _⟩ => ⟨S256x2048, .bf16⟩
  | .local _ .vmem, ⟨17, _⟩ => ⟨S256x2048, .bf16⟩
  | _, _ => ⟨S6144x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c1_i32 : BitVec 32 := 1#32
  let c0_i32 : BitVec 32 := 0#32
  ![v0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c1_i32 : BitVec 32 := 1#32
  let c0_i32 : BitVec 32 := 0#32
  ![v0.toNat, c1_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S6144x3072 : Shape := ⟨2, ![6144, 3072]⟩
abbrev S2048x1024 : Shape := ⟨2, ![2048, 1024]⟩
abbrev S6656x4096 : Shape := ⟨2, ![6656, 4096]⟩
abbrev S2048x64 : Shape := ⟨2, ![2048, 64]⟩
abbrev S2x256x64 : Shape := ⟨3, ![2, 256, 64]⟩
abbrev S2048x2048 : Shape := ⟨2, ![2048, 2048]⟩
abbrev S2x1024x16x128 : Shape := ⟨4, ![2, 1024, 16, 128]⟩
abbrev S2x1024x16x64 : Shape := ⟨4, ![2, 1024, 16, 64]⟩
abbrev S2048x4096 : Shape := ⟨2, ![2048, 4096]⟩
abbrev S2x1024x4096 : Shape := ⟨3, ![2, 1024, 4096]⟩
abbrev S512x4096 : Shape := ⟨2, ![512, 4096]⟩
abbrev S2x256x4096 : Shape := ⟨3, ![2, 256, 4096]⟩
abbrev S2x1280x4096 : Shape := ⟨3, ![2, 1280, 4096]⟩
abbrev S2x1024x64 : Shape := ⟨3, ![2, 1024, 64]⟩
abbrev S2x1280x64 : Shape := ⟨3, ![2, 1280, 64]⟩
abbrev S2x1280x2048 : Shape := ⟨3, ![2, 1280, 2048]⟩
abbrev S2x1280x16x128 : Shape := ⟨4, ![2, 1280, 16, 128]⟩
abbrev S2x1280x1x64 : Shape := ⟨4, ![2, 1280, 1, 64]⟩
abbrev S2x1280x16x64 : Shape := ⟨4, ![2, 1280, 16, 64]⟩
abbrev S2x1280x16x192 : Shape := ⟨4, ![2, 1280, 16, 192]⟩
abbrev S2x1024x16x192 : Shape := ⟨4, ![2, 1024, 16, 192]⟩
abbrev S2x16x1024x1280 : Shape := ⟨4, ![2, 16, 1024, 1280]⟩
abbrev S_ : Shape := ⟨0, ![]⟩
abbrev S2x16x1024 : Shape := ⟨3, ![2, 16, 1024]⟩
abbrev S2x16x1024x1 : Shape := ⟨4, ![2, 16, 1024, 1]⟩
abbrev S2x16x128x1024 : Shape := ⟨4, ![2, 16, 128, 1024]⟩

abbrev nBuf : Space → Nat
  | .hbm => 49
  | .vmem => 0
  | .smem => 0
  | _ => 0

abbrev bufTy : (tb : Table) → Fin (tcTables nBuf tb) → BufTy
  | .hbm, ⟨0, _⟩ => ⟨S6144x3072, .bf16⟩
  | .hbm, ⟨1, _⟩ => ⟨S2048x1024, .bf16⟩
  | .hbm, ⟨2, _⟩ => ⟨S6656x4096, .bf16⟩
  | .hbm, ⟨3, _⟩ => ⟨S2048x64, .bf16⟩
  | .hbm, ⟨4, _⟩ => ⟨S2x256x64, .f32⟩
  | .hbm, ⟨5, _⟩ => ⟨S6144x3072, .f32⟩
  | .hbm, ⟨6, _⟩ => ⟨S6656x4096, .f32⟩
  | .hbm, ⟨7, _⟩ => ⟨S2048x2048, .f32⟩
  | .hbm, ⟨8, _⟩ => ⟨S2x1024x16x128, .f32⟩
  | .hbm, ⟨9, _⟩ => ⟨S2048x1024, .f32⟩
  | .hbm, ⟨10, _⟩ => ⟨S2x1024x16x64, .f32⟩
  | .hbm, ⟨11, _⟩ => ⟨S2048x4096, .f32⟩
  | .hbm, ⟨12, _⟩ => ⟨S2x1024x4096, .f32⟩
  | .hbm, ⟨13, _⟩ => ⟨S512x4096, .f32⟩
  | .hbm, ⟨14, _⟩ => ⟨S2x256x4096, .f32⟩
  | .hbm, ⟨15, _⟩ => ⟨S2x1280x4096, .f32⟩
  | .hbm, ⟨16, _⟩ => ⟨S2048x64, .f32⟩
  | .hbm, ⟨17, _⟩ => ⟨S2x1024x64, .f32⟩
  | .hbm, ⟨18, _⟩ => ⟨S2x1280x64, .f32⟩
  | .hbm, ⟨19, _⟩ => ⟨S2x1280x2048, .f32⟩
  | .hbm, ⟨20, _⟩ => ⟨S2x1280x16x128, .f32⟩
  | .hbm, ⟨21, _⟩ => ⟨S2x1280x2048, .f32⟩
  | .hbm, ⟨22, _⟩ => ⟨S2x1280x16x128, .f32⟩
  | .hbm, ⟨23, _⟩ => ⟨S2x1280x1x64, .f32⟩
  | .hbm, ⟨24, _⟩ => ⟨S2x1280x16x64, .f32⟩
  | .hbm, ⟨25, _⟩ => ⟨S2x1280x16x192, .f32⟩
  | .hbm, ⟨26, _⟩ => ⟨S2x1024x16x192, .f32⟩
  | .hbm, ⟨27, _⟩ => ⟨S2x16x1024x1280, .f32⟩
  | .hbm, ⟨28, _⟩ => ⟨S_, .f32⟩
  | .hbm, ⟨29, _⟩ => ⟨S2x16x1024x1280, .f32⟩
  | .hbm, ⟨30, _⟩ => ⟨S2x16x1024x1280, .f32⟩
  | .hbm, ⟨31, _⟩ => ⟨S_, .f32⟩
  | .hbm, ⟨32, _⟩ => ⟨S2x16x1024, .f32⟩
  | .hbm, ⟨33, _⟩ => ⟨S_, .f32⟩
  | .hbm, ⟨34, _⟩ => ⟨S2x16x1024, .f32⟩
  | .hbm, ⟨35, _⟩ => ⟨S2x16x1024, .f32⟩
  | .hbm, ⟨36, _⟩ => ⟨S2x16x1024x1, .f32⟩
  | .hbm, ⟨37, _⟩ => ⟨S2x16x1024x1280, .f32⟩
  | .hbm, ⟨38, _⟩ => ⟨S2x16x1024x1280, .f32⟩
  | .hbm, ⟨39, _⟩ => ⟨S2x16x1024x1280, .f32⟩
  | .hbm, ⟨40, _⟩ => ⟨S_, .f32⟩
  | .hbm, ⟨41, _⟩ => ⟨S2x16x1024, .f32⟩
  | .hbm, ⟨42, _⟩ => ⟨S2x16x1024x1, .f32⟩
  | .hbm, ⟨43, _⟩ => ⟨S2x16x1024x1280, .f32⟩
  | .hbm, ⟨44, _⟩ => ⟨S2x16x1024x1280, .f32⟩
  | .hbm, ⟨45, _⟩ => ⟨S2x16x128x1024, .f32⟩
  | .hbm, ⟨46, _⟩ => ⟨S2x1024x16x128, .f32⟩
  | .hbm, ⟨47, _⟩ => ⟨S2048x2048, .f32⟩
  | .hbm, ⟨48, _⟩ => ⟨S2048x2048, .bf16⟩
  | _, _ => ⟨S6144x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Kernel2.lean ====
abbrev S4096x2048 : Shape := ⟨2, ![4096, 2048]⟩
abbrev S2048x2048 : Shape := ⟨2, ![2048, 2048]⟩
abbrev S6144x2048 : Shape := ⟨2, ![6144, 2048]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S6144x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .f32⟩
  | .local _ .vmem, ⟨5, _⟩ => ⟨S512x2048, .bf16⟩
  | .local _ .vmem, ⟨6, _⟩ => ⟨S512x2048, .bf16⟩
  | .local _ .vmem, ⟨7, _⟩ => ⟨S2048x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c8_i32_2 : BitVec 32 := 8#32
  let v6 : BitVec 1 := Scalar.cmpi .sge arg0 c8_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S4096x2048 : Shape := ⟨2, ![4096, 2048]⟩
abbrev S2048x2048 : Shape := ⟨2, ![2048, 2048]⟩
abbrev S6144x2048 : Shape := ⟨2, ![6144, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S6144x2048, .bf16⟩
  | .hbm, ⟨4, _⟩ => ⟨S6144x2048, .f32⟩
  | .hbm, ⟨5, _⟩ => ⟨S6144x2048, .f32⟩
  | .hbm, ⟨6, _⟩ => ⟨S6144x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S6144x2048 : Shape := ⟨2, ![6144, 2048]⟩
abbrev S4x2048x2048 : Shape := ⟨3, ![4, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S6144x2048, .bf16⟩
  | .hbm, ⟨1, _⟩ => ⟨S4x2048x2048, .f32⟩
  | .hbm, ⟨2, _⟩ => ⟨S6144x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .f32⟩
  | .local _ .vmem, ⟨3, _⟩ => ⟨S512x2048, .bf16⟩
  | .local _ .vmem, ⟨4, _⟩ => ⟨S512x2048, .bf16⟩
  | .local _ .vmem, ⟨5, _⟩ => ⟨S2048x2048, .bf16⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S6144x2048 : Shape := ⟨2, ![6144, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S4x2048x2048, .f32⟩
  | .hbm, ⟨2, _⟩ => ⟨S1x2048x2048, .f32⟩
  | .hbm, ⟨3, _⟩ => ⟨S2048x2048, .f32⟩
  | .hbm, ⟨4, _⟩ => ⟨S6144x2048, .f32⟩
  | .hbm, ⟨5, _⟩ => ⟨S6144x2048, .f32⟩
  | .hbm, ⟨6, _⟩ => ⟨S6144x2048, .bf16⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S6144x2048 : Shape := ⟨2, ![6144, 2048]⟩
abbrev S2048x6144 : Shape := ⟨2, ![2048, 6144]⟩
abbrev S6144x6144 : Shape := ⟨2, ![6144, 6144]⟩
abbrev S2048x2048 : Shape := ⟨2, ![2048, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S6144x2048, .bf16⟩
  | .hbm, ⟨1, _⟩ => ⟨S2048x6144, .f32⟩
  | .hbm, ⟨2, _⟩ => ⟨S6144x6144, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .bf16⟩
  | .local _ .vmem, ⟨5, _⟩ => ⟨S2048x512, .bf16⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S6144x2048 : Shape := ⟨2, ![6144, 2048]⟩
abbrev S2048x6144 : Shape := ⟨2, ![2048, 6144]⟩
abbrev S6144x6144 : Shape := ⟨2, ![6144, 6144]⟩

abbrev nBuf : Space → Nat
  | .hbm => 5
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S2048x6144, .f32⟩
  | .hbm, ⟨2, _⟩ => ⟨S6144x2048, .f32⟩
  | .hbm, ⟨3, _⟩ => ⟨S6144x6144, .f32⟩
  | .hbm, ⟨4, _⟩ => ⟨S6144x6144, .bf16⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S6144x2048 : Shape := ⟨2, ![6144, 2048]⟩
abbrev S2048x3072 : Shape := ⟨2, ![2048, 3072]⟩
abbrev S6144x1024 : Shape := ⟨2, ![6144, 1024]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S6144x2048, .bf16⟩
  | .hbm, ⟨1, _⟩ => ⟨S2048x3072, .f32⟩
  | .hbm, ⟨2, _⟩ => ⟨S6144x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S512x1024, .f32⟩
  | .local _ .vmem, ⟨4, _⟩ => ⟨S512x1024, .f32⟩
  | .local _ .vmem, ⟨5, _⟩ => ⟨S2048x1024, .bf16⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S6144x2048 : Shape := ⟨2, ![6144, 2048]⟩
abbrev S2048x3072 : Shape := ⟨2, ![2048, 3072]⟩
abbrev S6144x3072 : Shape := ⟨2, ![6144, 3072]⟩
abbrev S6144x1024 : Shape := ⟨2, ![6144, 1024]⟩

abbrev nBuf : Space → Nat
  | .hbm => 5
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S2048x3072, .f32⟩
  | .hbm, ⟨2, _⟩ => ⟨S6144x2048, .f32⟩
  | .hbm, ⟨3, _⟩ => ⟨S6144x3072, .f32⟩
  | .hbm, ⟨4, _⟩ => ⟨S6144x1024, .f32⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S6144x2048 : Shape := ⟨2, ![6144, 2048]⟩
abbrev S2048x3072 : Shape := ⟨2, ![2048, 3072]⟩
abbrev S512x2048 : Shape := ⟨2, ![512, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S6144x2048, .bf16⟩
  | .hbm, ⟨1, _⟩ => ⟨S2048x3072, .f32⟩
  | .hbm, ⟨2, _⟩ => ⟨S6144x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .f32⟩
  | .local _ .vmem, ⟨3, _⟩ => ⟨S512x2048, .bf16⟩
  | .local _ .vmem, ⟨4, _⟩ => ⟨S512x2048, .bf16⟩
  | .local _ .vmem, ⟨5, _⟩ => ⟨S2048x2048, .bf16⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S6144x2048 : Shape := ⟨2, ![6144, 2048]⟩
abbrev S2048x3072 : Shape := ⟨2, ![2048, 3072]⟩
abbrev S6144x3072 : Shape := ⟨2, ![6144, 3072]⟩

abbrev nBuf : Space → Nat
  | .hbm => 6
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S2048x3072, .f32⟩
  | .hbm, ⟨2, _⟩ => ⟨S6144x2048, .f32⟩
  | .hbm, ⟨3, _⟩ => ⟨S6144x3072, .f32⟩
  | .hbm, ⟨4, _⟩ => ⟨S6144x2048, .f32⟩
  | .hbm, ⟨5, _⟩ => ⟨S6144x2048, .bf16⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S6144x2048 : Shape := ⟨2, ![6144, 2048]⟩
abbrev S2048x512 : Shape := ⟨2, ![2048, 512]⟩
abbrev S512 : Shape := ⟨1, ![512]⟩
abbrev S2048x576 : Shape := ⟨2, ![2048, 576]⟩
abbrev S_ : Shape := ⟨0, ![]⟩
abbrev S2048x64 : Shape := ⟨2, ![2048, 64]⟩
abbrev S2048x1152 : Shape := ⟨2, ![2048, 1152]⟩
abbrev S1x512 : Shape := ⟨2, ![1, 512]⟩
abbrev S6144x512 : Shape := ⟨2, ![6144, 512]⟩
abbrev S6144x64 : Shape := ⟨2, ![6144, 64]⟩
abbrev S512x2048 : Shape := ⟨2, ![512, 2048]⟩
abbrev S512x512 : Shape := ⟨2, ![512, 512]⟩
abbrev S512x64 : Shape := ⟨2, ![512, 64]⟩
abbrev S512x1152 : Shape := ⟨2, ![512, 1152]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S6144x2048, .bf16⟩
  | .hbm, ⟨1, _⟩ => ⟨S2048x512, .f32⟩
  | .hbm, ⟨2, _⟩ => ⟨S512, .f32⟩
  | .hbm, ⟨3, _⟩ => ⟨S2048x576, .f32⟩
  | .hbm, ⟨4, _⟩ => ⟨S512, .f32⟩
  | .hbm, ⟨5, _⟩ => ⟨S_, .f32⟩
  | .hbm, ⟨6, _⟩ => ⟨S2048x64, .f32⟩
  | .hbm, ⟨7, _⟩ => ⟨S2048x1152, .f32⟩
  | .hbm, ⟨8, _⟩ => ⟨S1x512, .f32⟩
  | .hbm, ⟨9, _⟩ => ⟨S1x512, .f32⟩
  | .hbm, ⟨10, _⟩ => ⟨S6144x512, .bf16⟩
  | .hbm, ⟨11, _⟩ => ⟨S6144x512, .f32⟩
  | .hbm, ⟨12, _⟩ => ⟨S6144x64, .f32⟩
  | .local _ .vmem, ⟨0, _⟩ => ⟨S512x2048, .bf16⟩
  | .local _ .vmem, ⟨1, _⟩ => ⟨S512x2048, .bf16⟩
  | .local _ .vmem, ⟨2, _⟩ => ⟨S2048x1152, .f32⟩
  | .local _ .vmem, ⟨3, _⟩ => ⟨S1x512, .f32⟩
  | .local _ .vmem, ⟨4, _⟩ => ⟨S1x512, .f32⟩
  | .local _ .vmem, ⟨5, _⟩ => ⟨S512x512, .bf16⟩
  | .local _ .vmem, ⟨6, _⟩ => ⟨S512x512, .bf16⟩
  | .local _ .vmem, ⟨7, _⟩ => ⟨S512x512, .f32⟩
  | .local _ .vmem, ⟨8, _⟩ => ⟨S512x512, .f32⟩
  | .local _ .vmem, ⟨9, _⟩ => ⟨S512x64, .f32⟩
  | .local _ .vmem, ⟨10, _⟩ => ⟨S512x64, .f32⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S6144x2048 : Shape := ⟨2, ![6144, 2048]⟩
abbrev S2048x512 : Shape := ⟨2, ![2048, 512]⟩
abbrev S512 : Shape := ⟨1, ![512]⟩
abbrev S2048x576 : Shape := ⟨2, ![2048, 576]⟩
abbrev S6144x576 : Shape := ⟨2, ![6144, 576]⟩
abbrev S6144x512 : Shape := ⟨2, ![6144, 512]⟩
abbrev S_ : Shape := ⟨0, ![]⟩
abbrev S6144 : Shape := ⟨1, ![6144]⟩
abbrev S6144x1 : Shape := ⟨2, ![6144, 1]⟩
abbrev S1x512 : Shape := ⟨2, ![1, 512]⟩
abbrev S6144x64 : Shape := ⟨2, ![6144, 64]⟩

abbrev nBuf : Space → Nat
  | .hbm => 44
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S2048x512, .f32⟩
  | .hbm, ⟨2, _⟩ => ⟨S512, .f32⟩
  | .hbm, ⟨3, _⟩ => ⟨S2048x576, .f32⟩
  | .hbm, ⟨4, _⟩ => ⟨S512, .f32⟩
  | .hbm, ⟨5, _⟩ => ⟨S6144x2048, .f32⟩
  | .hbm, ⟨6, _⟩ => ⟨S6144x576, .f32⟩
  | .hbm, ⟨7, _⟩ => ⟨S6144x2048, .f32⟩
  | .hbm, ⟨8, _⟩ => ⟨S6144x512, .f32⟩
  | .hbm, ⟨9, _⟩ => ⟨S6144x512, .f32⟩
  | .hbm, ⟨10, _⟩ => ⟨S_, .f32⟩
  | .hbm, ⟨11, _⟩ => ⟨S6144, .f32⟩
  | .hbm, ⟨12, _⟩ => ⟨S6144x1, .f32⟩
  | .hbm, ⟨13, _⟩ => ⟨S_, .f32⟩
  | .hbm, ⟨14, _⟩ => ⟨S6144x1, .f32⟩
  | .hbm, ⟨15, _⟩ => ⟨S6144x1, .f32⟩
  | .hbm, ⟨16, _⟩ => ⟨S_, .f32⟩
  | .hbm, ⟨17, _⟩ => ⟨S6144x1, .f32⟩
  | .hbm, ⟨18, _⟩ => ⟨S6144x1, .f32⟩
  | .hbm, ⟨19, _⟩ => ⟨S6144x1, .f32⟩
  | .hbm, ⟨20, _⟩ => ⟨S6144x512, .f32⟩
  | .hbm, ⟨21, _⟩ => ⟨S6144x512, .f32⟩
  | .hbm, ⟨22, _⟩ => ⟨S1x512, .f32⟩
  | .hbm, ⟨23, _⟩ => ⟨S6144x512, .f32⟩
  | .hbm, ⟨24, _⟩ => ⟨S6144x512, .f32⟩
  | .hbm, ⟨25, _⟩ => ⟨S6144x512, .bf16⟩
  | .hbm, ⟨26, _⟩ => ⟨S6144x512, .f32⟩
  | .hbm, ⟨27, _⟩ => ⟨S6144x512, .f32⟩
  | .hbm, ⟨28, _⟩ => ⟨S_, .f32⟩
  | .hbm, ⟨29, _⟩ => ⟨S6144, .f32⟩
  | .hbm, ⟨30, _⟩ => ⟨S6144x1, .f32⟩
  | .hbm, ⟨31, _⟩ => ⟨S_, .f32⟩
  | .hbm, ⟨32, _⟩ => ⟨S6144x1, .f32⟩
  | .hbm, ⟨33, _⟩ => ⟨S6144x1, .f32⟩
  | .hbm, ⟨34, _⟩ => ⟨S_, .f32⟩
  | .hbm, ⟨35, _⟩ => ⟨S6144x1, .f32⟩
  | .hbm, ⟨36, _⟩ => ⟨S6144x1, .f32⟩
  | .hbm, ⟨37, _⟩ => ⟨S6144x1, .f32⟩
  | .hbm, ⟨38, _⟩ => ⟨S6144x512, .f32⟩
  | .hbm, ⟨39, _⟩ => ⟨S6144x512, .f32⟩
  | .hbm, ⟨40, _⟩ => ⟨S1x512, .f32⟩
  | .hbm, ⟨41, _⟩ => ⟨S6144x512, .f32⟩
  | .hbm, ⟨42, _⟩ => ⟨S6144x512, .f32⟩
  | .hbm, ⟨43, _⟩ => ⟨S6144x64, .f32⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel8.lean ====
abbrev S6144x2048 : Shape := ⟨2, ![6144, 2048]⟩
abbrev S8x6x1x2048 : Shape := ⟨4, ![8, 6, 1, 2048]⟩
abbrev S4x2048 : Shape := ⟨2, ![4, 2048]⟩
abbrev S1x2048 : Shape := ⟨2, ![1, 2048]⟩
abbrev S2048 : Shape := ⟨1, ![2048]⟩
abbrev S4096x2048 : Shape := ⟨2, ![4096, 2048]⟩
abbrev S512x2048 : Shape := ⟨2, ![512, 2048]⟩
abbrev S1x1x1x2048 : Shape := ⟨4, ![1, 1, 1, 2048]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S6144x2048, .f32⟩
  | .hbm, ⟨1, _⟩ => ⟨S6144x2048, .f32⟩
  | .hbm, ⟨2, _⟩ => ⟨S8x6x1x2048, .f32⟩
  | .hbm, ⟨3, _⟩ => ⟨S4x2048, .f32⟩
  | .hbm, ⟨4, _⟩ => ⟨S4x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S6144x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 4 → Nat :=
  let arg0 : BitVec 32 := BitVec.ofNat 32 (i 0).val
  let c0_i32 : BitVec 32 := 0#32
  let v0 : BitVec 32 := Scalar.addi c0_i32 arg0
  let c512_i32 : BitVec 32 := 512#32
  let v1 : BitVec 32 := Scalar.muli v0 c512_i32
  let c1024_i32 : BitVec 32 := 1024#32
  let v2 : BitVec 32 := Scalar.divsi v1 c1024_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1024_i32 c0_i32_2
  let v9 : BitVec 32 := Scalar.extui v8
  let c0_i32_3 : BitVec 32 := 0#32
  let v10 : BitVec 1 := Scalar.cmpi .slt c1024_i32 c0_i32_3
  let v11 : BitVec 32 := Scalar.extui v10
  let v12 : BitVec 32 := Scalar.subi v9 v11
  let v13 : BitVec 1 := Scalar.cmpi .ne v7 v12
  let v14 : BitVec 32 := Scalar.remsi v1 c1024_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c3_i32 : BitVec 32 := 3#32
  let v19 : BitVec 32 := Scalar.subi v18 c3_i32
  let c0_i32_5 : BitVec 32 := 0#32
  let v20 : BitVec 32 := Scalar.maxsi v19 c0_i32_5
  let c5_i32 : BitVec 32 := 5#32
  let c0_i32_6 : BitVec 32 := 0#32
  let c0_i32_7 : BitVec 32 := 0#32
  let c0_i32_8 : BitVec 32 := 0#32
  ![v20.toNat, c5_i32.toNat, c0_i32_6.toNat, c0_i32_7.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S6144x2048 : Shape := ⟨2, ![6144, 2048]⟩
abbrev S8x6x1x2048 : Shape := ⟨4, ![8, 6, 1, 2048]⟩
abbrev S4x2048 : Shape := ⟨2, ![4, 2048]⟩
abbrev S1x1x1x2048 : Shape := ⟨4, ![1, 1, 1, 2048]⟩
abbrev S1x2048 : Shape := ⟨2, ![1, 2048]⟩
abbrev S4096x2048 : Shape := ⟨2, ![4096, 2048]⟩
abbrev S_ : Shape := ⟨0, ![]⟩
abbrev S2048 : Shape := ⟨1, ![2048]⟩
abbrev S4096 : Shape := ⟨1, ![4096]⟩
abbrev S4096x1 : Shape := ⟨2, ![4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S6144x2048, .f32⟩
  | .hbm, ⟨1, _⟩ => ⟨S6144x2048, .f32⟩
  | .hbm, ⟨2, _⟩ => ⟨S8x6x1x2048, .f32⟩
  | .hbm, ⟨3, _⟩ => ⟨S4x2048, .f32⟩
  | .hbm, ⟨4, _⟩ => ⟨S4x2048, .f32⟩
  | .hbm, ⟨5, _⟩ => ⟨S1x1x1x2048, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S1x2048, .f32⟩
  | .hbm, ⟨46, _⟩ => ⟨S4096x2048, .f32⟩
  | .hbm, ⟨47, _⟩ => ⟨S4096x2048, .f32⟩
  | _, _ => ⟨S6144x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel9.lean ====
abbrev S6144x2048 : Shape := ⟨2, ![6144, 2048]⟩
abbrev S8x6x1x2048 : Shape := ⟨4, ![8, 6, 1, 2048]⟩
abbrev S4x2048 : Shape := ⟨2, ![4, 2048]⟩
abbrev S1x2048 : Shape := ⟨2, ![1, 2048]⟩
abbrev S2048 : Shape := ⟨1, ![2048]⟩
abbrev S2048x2048 : Shape := ⟨2, ![2048, 2048]⟩
abbrev S512x2048 : Shape := ⟨2, ![512, 2048]⟩
abbrev S1x1x1x2048 : Shape := ⟨4, ![1, 1, 1, 2048]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S6144x2048, .f32⟩
  | .hbm, ⟨1, _⟩ => ⟨S6144x2048, .f32⟩
  | .hbm, ⟨2, _⟩ => ⟨S8x6x1x2048, .f32⟩
  | .hbm, ⟨3, _⟩ => ⟨S4x2048, .f32⟩
  | .hbm, ⟨4, _⟩ => ⟨S4x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S6144x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_2 (i : grid0.Coords) : Fin 4 → Nat :=
  let arg0 : BitVec 32 := BitVec.ofNat 32 (i 0).val
  let c8_i32 : BitVec 32 := 8#32
  let v0 : BitVec 32 := Scalar.addi c8_i32 arg0
  let c512_i32 : BitVec 32 := 512#32
  let v1 : BitVec 32 := Scalar.muli v0 c512_i32
  let c1024_i32 : BitVec 32 := 1024#32
  let v2 : BitVec 32 := Scalar.divsi v1 c1024_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c3_i32 : BitVec 32 := 3#32
  let v19 : BitVec 32 := Scalar.subi v18 c3_i32
  let c0_i32_4 : BitVec 32 := 0#32
  let v20 : BitVec 32 := Scalar.maxsi v19 c0_i32_4
  let c5_i32 : BitVec 32 := 5#32
  let c0_i32_5 : BitVec 32 := 0#32
  let c0_i32_6 : BitVec 32 := 0#32
  let c0_i32_7 : BitVec 32 := 0#32
  ![v20.toNat, c5_i32.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S6144x2048 : Shape := ⟨2, ![6144, 2048]⟩
abbrev S8x6x1x2048 : Shape := ⟨4, ![8, 6, 1, 2048]⟩
abbrev S4x2048 : Shape := ⟨2, ![4, 2048]⟩
abbrev S2x1x1x2048 : Shape := ⟨4, ![2, 1, 1, 2048]⟩
abbrev S2x1x2048 : Shape := ⟨3, ![2, 1, 2048]⟩
abbrev S2048x2048 : Shape := ⟨2, ![2048, 2048]⟩
abbrev S2x1024x2048 : Shape := ⟨3, ![2, 1024, 2048]⟩
abbrev S_ : Shape := ⟨0, ![]⟩
abbrev S1x2048 : Shape := ⟨2, ![1, 2048]⟩
abbrev S2048 : Shape := ⟨1, ![2048]⟩
abbrev S2x1024 : Shape := ⟨2, ![2, 1024]⟩
abbrev S2x1024x1 : Shape := ⟨3, ![2, 1024, 1]⟩
abbrev S1x1x2048 : Shape := ⟨3, ![1, 1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S6144x2048, .f32⟩
  | .hbm, ⟨1, _⟩ => ⟨S6144x2048, .f32⟩
  | .hbm, ⟨2, _⟩ => ⟨S8x6x1x2048, .f32⟩
  | .hbm, ⟨3, _⟩ => ⟨S4x2048, .f32⟩
  | .hbm, ⟨4, _⟩ => ⟨S4x2048, .f32⟩
  | .hbm, ⟨5, _⟩ => ⟨S2x1x1x2048, .f32⟩
  | .hbm, ⟨6, _⟩ => ⟨S2x1x2048, .f32⟩
  | .hbm, ⟨7, _⟩ => ⟨S2048x2048, .f32⟩
  | .hbm, ⟨8, _⟩ => ⟨S2x1024x2048, .f32⟩
  | .hbm, ⟨9, _⟩ => ⟨S2048x2048, .f32⟩
  | .hbm, ⟨10, _⟩ => ⟨S2x1024x2048, .f32⟩
  | .hbm, ⟨11, _⟩ => ⟨S_, .f32⟩
  | .hbm, ⟨12, _⟩ => ⟨S2x1024x2048, .f32⟩
  | .hbm, ⟨13, _⟩ => ⟨S2x1024x2048, .f32⟩
  | .hbm, ⟨14, _⟩ => ⟨S2x1024x2048, .f32⟩
  | .hbm, ⟨15, _⟩ => ⟨S2x1024x2048, .f32⟩
  | .hbm, ⟨16, _⟩ => ⟨S2x1024x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S2048, .f32⟩
  | .hbm, ⟨21, _⟩ => ⟨S_, .f32⟩
  | .hbm, ⟨22, _⟩ => ⟨S2x1024, .f32⟩
  | .hbm, ⟨23, _⟩ => ⟨S2x1024x1, .f32⟩
  | .hbm, ⟨24, _⟩ => ⟨S_, .f32⟩
  | .hbm, ⟨25, _⟩ => ⟨S2x1024x1, .f32⟩
  | .hbm, ⟨26, _⟩ => ⟨S2x1024x1, .f32⟩
  | .hbm, ⟨27, _⟩ => ⟨S2x1024x2048, .f32⟩
  | .hbm, ⟨28, _⟩ => ⟨S2x1024x2048, .f32⟩
  | .hbm, ⟨29, _⟩ => ⟨S2x1024x2048, .f32⟩
  | .hbm, ⟨30, _⟩ => ⟨S_, .f32⟩
  | .hbm, ⟨31, _⟩ => ⟨S2x1024, .f32⟩
  | .hbm, ⟨32, _⟩ => ⟨S2x1024x1, .f32⟩
  | .hbm, ⟨33, _⟩ => ⟨S_, .f32⟩
  | .hbm, ⟨34, _⟩ => ⟨S2x1024x1, .f32⟩
  | .hbm, ⟨35, _⟩ => ⟨S2x1024x1, .f32⟩
  | .hbm, ⟨36, _⟩ => ⟨S2x1024x2048, .f32⟩
  | .hbm, ⟨37, _⟩ => ⟨S2x1024x2048, .f32⟩
  | .hbm, ⟨38, _⟩ => ⟨S_, .f32⟩
  | .hbm, ⟨39, _⟩ => ⟨S2x1024x1, .f32⟩
  | .hbm, ⟨40, _⟩ => ⟨S2x1024x1, .f32⟩
  | .hbm, ⟨41, _⟩ => ⟨S2x1024x1, .f32⟩
  | .hbm, ⟨42, _⟩ => ⟨S2x1024x2048, .f32⟩
  | .hbm, ⟨43, _⟩ => ⟨S2x1024x2048, .f32⟩
  | .hbm, ⟨44, _⟩ => ⟨S1x1x2048, .f32⟩
  | .hbm, ⟨45, _⟩ => ⟨S2x1024x2048, .f32⟩
  | .hbm, ⟨46, _⟩ => ⟨S2x1024x2048, .f32⟩
  | .hbm, ⟨47, _⟩ => ⟨S1x1x2048, .f32⟩
  | .hbm, ⟨48, _⟩ => ⟨S2x1024x2048, .f32⟩
  | .hbm, ⟨49, _⟩ => ⟨S2x1024x2048, .f32⟩
  | .hbm, ⟨50, _⟩ => ⟨S2048x2048, .f32⟩
  | _, _ => ⟨S6144x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel10.lean ====
abbrev S6144x512 : Shape := ⟨2, ![6144, 512]⟩
abbrev S512x3072 : Shape := ⟨2, ![512, 3072]⟩
abbrev S512x16x192 : Shape := ⟨3, ![512, 16, 192]⟩
abbrev S512x16x128 : Shape := ⟨3, ![512, 16, 128]⟩
abbrev S512x2048 : Shape := ⟨2, ![512, 2048]⟩
abbrev S512x16x64 : Shape := ⟨3, ![512, 16, 64]⟩
abbrev S512x1024 : Shape := ⟨2, ![512, 1024]⟩
abbrev S6144x3072 : Shape := ⟨2, ![6144, 3072]⟩
abbrev S512x512 : Shape := ⟨2, ![512, 512]⟩

abbrev nBuf : Space → Nat
  | .hbm => 9
  | .vmem => 6
  | .smem => 0
  | _ => 0

abbrev bufTy : (tb : Table) → Fin (tcTables nBuf tb) → BufTy
  | .hbm, ⟨0, _⟩ => ⟨S6144x512, .bf16⟩
  | .hbm, ⟨1, _⟩ => ⟨S512x3072, .f32⟩
  | .hbm, ⟨2, _⟩ => ⟨S512x16x192, .f32⟩
  | .hbm, ⟨3, _⟩ => ⟨S512x16x128, .f32⟩
  | .hbm, ⟨4, _⟩ => ⟨S512x2048, .f32⟩
  | .hbm, ⟨5, _⟩ => ⟨S512x16x64, .f32⟩
  | .hbm, ⟨6, _⟩ => ⟨S512x1024, .f32⟩
  | .hbm, ⟨7, _⟩ => ⟨S512x3072, .f32⟩
  | .hbm, ⟨8, _⟩ => ⟨S6144x3072, .bf16⟩
  | .local _ .vmem, ⟨0, _⟩ => ⟨S512x512, .bf16⟩
  | .local _ .vmem, ⟨1, _⟩ => ⟨S512x512, .bf16⟩
  | .local _ .vmem, ⟨2, _⟩ => ⟨S512x3072, .f32⟩
  | .local _ .vmem, ⟨3, _⟩ => ⟨S512x3072, .bf16⟩
  | .local _ .vmem, ⟨4, _⟩ => ⟨S512x3072, .bf16⟩
  | .local _ .vmem, ⟨5, _⟩ => ⟨S512x3072, .bf16⟩
  | _, _ => ⟨S6144x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S6144x512 : Shape := ⟨2, ![6144, 512]⟩
abbrev S512x3072 : Shape := ⟨2, ![512, 3072]⟩
abbrev S6144x3072 : Shape := ⟨2, ![6144, 3072]⟩
abbrev S6144x16x192 : Shape := ⟨3, ![6144, 16, 192]⟩
abbrev S6144x16x128 : Shape := ⟨3, ![6144, 16, 128]⟩
abbrev S6144x2048 : Shape := ⟨2, ![6144, 2048]⟩
abbrev S6144x16x64 : Shape := ⟨3, ![6144, 16, 64]⟩
abbrev S6144x1024 : Shape := ⟨2, ![6144, 1024]⟩

abbrev nBuf : Space → Nat
  | .hbm => 11
  | .vmem => 0
  | .smem => 0
  | _ => 0

abbrev bufTy : (tb : Table) → Fin (tcTables nBuf tb) → BufTy
  | .hbm, ⟨0, _⟩ => ⟨S6144x512, .bf16⟩
  | .hbm, ⟨1, _⟩ => ⟨S512x3072, .f32⟩
  | .hbm, ⟨2, _⟩ => ⟨S6144x512, .f32⟩
  | .hbm, ⟨3, _⟩ => ⟨S6144x3072, .f32⟩
  | .hbm, ⟨4, _⟩ => ⟨S6144x16x192, .f32⟩
  | .hbm, ⟨5, _⟩ => ⟨S6144x16x128, .f32⟩
  | .hbm, ⟨6, _⟩ => ⟨S6144x2048, .f32⟩
  | .hbm, ⟨7, _⟩ => ⟨S6144x16x64, .f32⟩
  | .hbm, ⟨8, _⟩ => ⟨S6144x1024, .f32⟩
  | .hbm, ⟨9, _⟩ => ⟨S6144x3072, .f32⟩
  | .hbm, ⟨10, _⟩ => ⟨S6144x3072, .bf16⟩
  | _, _ => ⟨S6144x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel11.lean ====
abbrev S6144x512 : Shape := ⟨2, ![6144, 512]⟩
abbrev S2x256x512 : Shape := ⟨3, ![2, 256, 512]⟩
abbrev S512x2048 : Shape := ⟨2, ![512, 2048]⟩
abbrev S512x512 : Shape := ⟨2, ![512, 512]⟩
abbrev S6656x512 : Shape := ⟨2, ![6656, 512]⟩
abbrev S512x4096 : Shape := ⟨2, ![512, 4096]⟩
abbrev S6656x4096 : Shape := ⟨2, ![6656, 4096]⟩

abbrev nBuf : Space → Nat
  | .hbm => 9
  | .vmem => 6
  | .smem => 0
  | _ => 0

abbrev bufTy : (tb : Table) → Fin (tcTables nBuf tb) → BufTy
  | .hbm, ⟨0, _⟩ => ⟨S6144x512, .f32⟩
  | .hbm, ⟨1, _⟩ => ⟨S2x256x512, .f32⟩
  | .hbm, ⟨2, _⟩ => ⟨S512x2048, .f32⟩
  | .hbm, ⟨3, _⟩ => ⟨S512x2048, .f32⟩
  | .hbm, ⟨4, _⟩ => ⟨S512x512, .f32⟩
  | .hbm, ⟨5, _⟩ => ⟨S6656x512, .f32⟩
  | .hbm, ⟨6, _⟩ => ⟨S6656x512, .bf16⟩
  | .hbm, ⟨7, _⟩ => ⟨S512x4096, .f32⟩
  | .hbm, ⟨8, _⟩ => ⟨S6656x4096, .bf16⟩
  | .local _ .vmem, ⟨0, _⟩ => ⟨S512x512, .bf16⟩
  | .local _ .vmem, ⟨1, _⟩ => ⟨S512x512, .bf16⟩
  | .local _ .vmem, ⟨2, _⟩ => ⟨S512x4096, .f32⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | _, _ => ⟨S6144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S6144x512 : Shape := ⟨2, ![6144, 512]⟩
abbrev S2x256x512 : Shape := ⟨3, ![2, 256, 512]⟩
abbrev S512x2048 : Shape := ⟨2, ![512, 2048]⟩
abbrev S512x512 : Shape := ⟨2, ![512, 512]⟩
abbrev S6656x512 : Shape := ⟨2, ![6656, 512]⟩
abbrev S6656x2048 : Shape := ⟨2, ![6656, 2048]⟩
abbrev S6656x4096 : Shape := ⟨2, ![6656, 4096]⟩

abbrev nBuf : Space → Nat
  | .hbm => 10
  | .vmem => 0
  | .smem => 0
  | _ => 0

abbrev bufTy : (tb : Table) → Fin (tcTables nBuf tb) → BufTy
  | .hbm, ⟨0, _⟩ => ⟨S6144x512, .f32⟩
  | .hbm, ⟨1, _⟩ => ⟨S2x256x512, .f32⟩
  | .hbm, ⟨2, _⟩ => ⟨S512x2048, .f32⟩
  | .hbm, ⟨3, _⟩ => ⟨S512x2048, .f32⟩
  | .hbm, ⟨4, _⟩ => ⟨S512x512, .f32⟩
  | .hbm, ⟨5, _⟩ => ⟨S6656x512, .f32⟩
  | .hbm, ⟨6, _⟩ => ⟨S6656x2048, .f32⟩
  | .hbm, ⟨7, _⟩ => ⟨S6656x2048, .f32⟩
  | .hbm, ⟨8, _⟩ => ⟨S6656x4096, .f32⟩
  | .hbm, ⟨9, _⟩ => ⟨S6656x4096, .bf16⟩
  | _, _ => ⟨S6144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel12.lean ====
abbrev S6144x3072 : Shape := ⟨2, ![6144, 3072]⟩
abbrev S6656x4096 : Shape := ⟨2, ![6656, 4096]⟩
abbrev S6144x64 : Shape := ⟨2, ![6144, 64]⟩
abbrev S4096x2048 : Shape := ⟨2, ![4096, 2048]⟩
abbrev S256x2048 : Shape := ⟨2, ![256, 2048]⟩
abbrev S256x1024 : Shape := ⟨2, ![256, 1024]⟩
abbrev S256x64 : Shape := ⟨2, ![256, 64]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 12
  | .smem => 0
  | _ => 0

abbrev bufTy : (tb : Table) → Fin (tcTables nBuf tb) → BufTy
  | .hbm, ⟨0, _⟩ => ⟨S6144x3072, .bf16⟩
  | .hbm, ⟨1, _⟩ => ⟨S6656x4096, .bf16⟩
  | .hbm, ⟨2, _⟩ => ⟨S6144x64, .f32⟩
  | .hbm, ⟨3, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x64, .f32⟩
  | .local _ .vmem, ⟨9, _⟩ => ⟨S256x64, .f32⟩
  | .local _ .vmem, ⟨10, _⟩ => ⟨S256x2048, .bf16⟩
  | .local _ .vmem, ⟨11, _⟩ => ⟨S256x2048, .bf16⟩
  | _, _ => ⟨S6144x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S6144x3072 : Shape := ⟨2, ![6144, 3072]⟩
abbrev S6656x4096 : Shape := ⟨2, ![6656, 4096]⟩
abbrev S6144x64 : Shape := ⟨2, ![6144, 64]⟩
abbrev S4096x3072 : Shape := ⟨2, ![4096, 3072]⟩
abbrev S4096x4096 : Shape := ⟨2, ![4096, 4096]⟩
abbrev S4096x2048 : Shape := ⟨2, ![4096, 2048]⟩
abbrev S16x256x16x128 : Shape := ⟨4, ![16, 256, 16, 128]⟩
abbrev S4096x1024 : Shape := ⟨2, ![4096, 1024]⟩
abbrev S16x256x16x64 : Shape := ⟨4, ![16, 256, 16, 64]⟩
abbrev S4096x64 : Shape := ⟨2, ![4096, 64]⟩
abbrev S16x256x64 : Shape := ⟨3, ![16, 256, 64]⟩
abbrev S16x256x1x64 : Shape := ⟨4, ![16, 256, 1, 64]⟩
abbrev S16x256x16x192 : Shape := ⟨4, ![16, 256, 16, 192]⟩
abbrev S16x16x256x256 : Shape := ⟨4, ![16, 16, 256, 256]⟩
abbrev S_ : Shape := ⟨0, ![]⟩
abbrev S16x16x256 : Shape := ⟨3, ![16, 16, 256]⟩
abbrev S16x16x256x1 : Shape := ⟨4, ![16, 16, 256, 1]⟩
abbrev S16x16x128x256 : Shape := ⟨4, ![16, 16, 128, 256]⟩

abbrev nBuf : Space → Nat
  | .hbm => 43
  | .vmem => 0
  | .smem => 0
  | _ => 0

abbrev bufTy : (tb : Table) → Fin (tcTables nBuf tb) → BufTy
  | .hbm, ⟨0, _⟩ => ⟨S6144x3072, .bf16⟩
  | .hbm, ⟨1, _⟩ => ⟨S6656x4096, .bf16⟩
  | .hbm, ⟨2, _⟩ => ⟨S6144x64, .f32⟩
  | .hbm, ⟨3, _⟩ => ⟨S6144x3072, .f32⟩
  | .hbm, ⟨4, _⟩ => ⟨S4096x3072, .f32⟩
  | .hbm, ⟨5, _⟩ => ⟨S6656x4096, .f32⟩
  | .hbm, ⟨6, _⟩ => ⟨S4096x4096, .f32⟩
  | .hbm, ⟨7, _⟩ => ⟨S4096x2048, .f32⟩
  | .hbm, ⟨8, _⟩ => ⟨S16x256x16x128, .f32⟩
  | .hbm, ⟨9, _⟩ => ⟨S4096x1024, .f32⟩
  | .hbm, ⟨10, _⟩ => ⟨S16x256x16x64, .f32⟩
  | .hbm, ⟨11, _⟩ => ⟨S4096x2048, .f32⟩
  | .hbm, ⟨12, _⟩ => ⟨S16x256x16x128, .f32⟩
  | .hbm, ⟨13, _⟩ => ⟨S4096x2048, .f32⟩
  | .hbm, ⟨14, _⟩ => ⟨S16x256x16x128, .f32⟩
  | .hbm, ⟨15, _⟩ => ⟨S4096x64, .f32⟩
  | .hbm, ⟨16, _⟩ => ⟨S16x256x64, .f32⟩
  | .hbm, ⟨17, _⟩ => ⟨S16x256x1x64, .f32⟩
  | .hbm, ⟨18, _⟩ => ⟨S16x256x16x64, .f32⟩
  | .hbm, ⟨19, _⟩ => ⟨S16x256x16x192, .f32⟩
  | .hbm, ⟨20, _⟩ => ⟨S16x256x16x192, .f32⟩
  | .hbm, ⟨21, _⟩ => ⟨S16x16x256x256, .f32⟩
  | .hbm, ⟨22, _⟩ => ⟨S_, .f32⟩
  | .hbm, ⟨23, _⟩ => ⟨S16x16x256x256, .f32⟩
  | .hbm, ⟨24, _⟩ => ⟨S16x16x256x256, .f32⟩
  | .hbm, ⟨25, _⟩ => ⟨S_, .f32⟩
  | .hbm, ⟨26, _⟩ => ⟨S16x16x256, .f32⟩
  | .hbm, ⟨27, _⟩ => ⟨S_, .f32⟩
  | .hbm, ⟨28, _⟩ => ⟨S16x16x256, .f32⟩
  | .hbm, ⟨29, _⟩ => ⟨S16x16x256, .f32⟩
  | .hbm, ⟨30, _⟩ => ⟨S16x16x256x1, .f32⟩
  | .hbm, ⟨31, _⟩ => ⟨S16x16x256x256, .f32⟩
  | .hbm, ⟨32, _⟩ => ⟨S16x16x256x256, .f32⟩
  | .hbm, ⟨33, _⟩ => ⟨S16x16x256x256, .f32⟩
  | .hbm, ⟨34, _⟩ => ⟨S_, .f32⟩
  | .hbm, ⟨35, _⟩ => ⟨S16x16x256, .f32⟩
  | .hbm, ⟨36, _⟩ => ⟨S16x16x256x1, .f32⟩
  | .hbm, ⟨37, _⟩ => ⟨S16x16x256x256, .f32⟩
  | .hbm, ⟨38, _⟩ => ⟨S16x16x256x256, .f32⟩
  | .hbm, ⟨39, _⟩ => ⟨S16x16x128x256, .f32⟩
  | .hbm, ⟨40, _⟩ => ⟨S16x256x16x128, .f32⟩
  | .hbm, ⟨41, _⟩ => ⟨S4096x2048, .f32⟩
  | .hbm, ⟨42, _⟩ => ⟨S4096x2048, .bf16⟩
  | _, _ => ⟨S6144x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== Kernel13.lean ====
abbrev S6144x2048 : Shape := ⟨2, ![6144, 2048]⟩
abbrev S6144x1024 : Shape := ⟨2, ![6144, 1024]⟩
abbrev S32 : Shape := ⟨1, ![32]⟩
abbrev S4096x2048 : Shape := ⟨2, ![4096, 2048]⟩
abbrev S256x2048 : Shape := ⟨2, ![256, 2048]⟩
abbrev S256x512 : Shape := ⟨2, ![256, 512]⟩
abbrev S256x64 : Shape := ⟨2, ![256, 64]⟩
abbrev S256x256 : Shape := ⟨2, ![256, 256]⟩
abbrev S1 : Shape := ⟨1, ![1]⟩
abbrev S256 : Shape := ⟨1, ![256]⟩
abbrev S256x1 : Shape := ⟨2, ![256, 1]⟩

abbrev nBuf : Space → Nat
  | .hbm => 4
  | .vmem => 8
  | .smem => 1
  | _ => 0

abbrev bufTy : (tb : Table) → Fin (tcTables nBuf tb) → BufTy
  | .hbm, ⟨0, _⟩ => ⟨S6144x2048, .bf16⟩
  | .hbm, ⟨1, _⟩ => ⟨S6144x1024, .f32⟩
  | .hbm, ⟨2, _⟩ => ⟨S32, .f32⟩
  | .hbm, ⟨3, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x2048, .bf16⟩
  | .local _ .vmem, ⟨7, _⟩ => ⟨S256x2048, .bf16⟩
  | .local _ .smem, ⟨0, _⟩ => ⟨S32, .f32⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S6144x2048 : Shape := ⟨2, ![6144, 2048]⟩
abbrev S6144x1024 : Shape := ⟨2, ![6144, 1024]⟩
abbrev S32 : Shape := ⟨1, ![32]⟩
abbrev S4096x2048 : Shape := ⟨2, ![4096, 2048]⟩
abbrev S16x256x8x4x64 : Shape := ⟨5, ![16, 256, 8, 4, 64]⟩
abbrev S4096x512 : Shape := ⟨2, ![4096, 512]⟩
abbrev S16x256x8x64 : Shape := ⟨4, ![16, 256, 8, 64]⟩
abbrev S16x8x256x256x4 : Shape := ⟨5, ![16, 8, 256, 256, 4]⟩
abbrev S16x8x4x256x256 : Shape := ⟨5, ![16, 8, 4, 256, 256]⟩
abbrev S_ : Shape := ⟨0, ![]⟩
abbrev S8x4 : Shape := ⟨2, ![8, 4]⟩
abbrev S1x8x4x1x1 : Shape := ⟨5, ![1, 8, 4, 1, 1]⟩
abbrev S16x8x4x256x1 : Shape := ⟨5, ![16, 8, 4, 256, 1]⟩
abbrev S16x8x4x256x257 : Shape := ⟨5, ![16, 8, 4, 256, 257]⟩
abbrev S16x8x4x256 : Shape := ⟨4, ![16, 8, 4, 256]⟩
abbrev S16x8x64x4x256 : Shape := ⟨5, ![16, 8, 64, 4, 256]⟩

abbrev nBuf : Space → Nat
  | .hbm => 38
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S6144x1024, .f32⟩
  | .hbm, ⟨2, _⟩ => ⟨S32, .f32⟩
  | .hbm, ⟨3, _⟩ => ⟨S6144x2048, .f32⟩
  | .hbm, ⟨4, _⟩ => ⟨S4096x2048, .f32⟩
  | .hbm, ⟨5, _⟩ => ⟨S16x256x8x4x64, .f32⟩
  | .hbm, ⟨6, _⟩ => ⟨S4096x512, .f32⟩
  | .hbm, ⟨7, _⟩ => ⟨S16x256x8x64, .f32⟩
  | .hbm, ⟨8, _⟩ => ⟨S4096x512, .f32⟩
  | .hbm, ⟨9, _⟩ => ⟨S16x256x8x64, .f32⟩
  | .hbm, ⟨10, _⟩ => ⟨S16x8x256x256x4, .f32⟩
  | .hbm, ⟨11, _⟩ => ⟨S16x8x4x256x256, .f32⟩
  | .hbm, ⟨12, _⟩ => ⟨S_, .f32⟩
  | .hbm, ⟨13, _⟩ => ⟨S16x8x4x256x256, .f32⟩
  | .hbm, ⟨14, _⟩ => ⟨S16x8x4x256x256, .f32⟩
  | .hbm, ⟨15, _⟩ => ⟨S8x4, .f32⟩
  | .hbm, ⟨16, _⟩ => ⟨S1x8x4x1x1, .f32⟩
  | .hbm, ⟨17, _⟩ => ⟨S16x8x4x256x1, .f32⟩
  | .hbm, ⟨18, _⟩ => ⟨S16x8x4x256x257, .f32⟩
  | .hbm, ⟨19, _⟩ => ⟨S_, .f32⟩
  | .hbm, ⟨20, _⟩ => ⟨S16x8x4x256, .f32⟩
  | .hbm, ⟨21, _⟩ => ⟨S_, .f32⟩
  | .hbm, ⟨22, _⟩ => ⟨S16x8x4x256, .f32⟩
  | .hbm, ⟨23, _⟩ => ⟨S16x8x4x256, .f32⟩
  | .hbm, ⟨24, _⟩ => ⟨S16x8x4x256x1, .f32⟩
  | .hbm, ⟨25, _⟩ => ⟨S16x8x4x256x257, .f32⟩
  | .hbm, ⟨26, _⟩ => ⟨S16x8x4x256x257, .f32⟩
  | .hbm, ⟨27, _⟩ => ⟨S16x8x4x256x257, .f32⟩
  | .hbm, ⟨28, _⟩ => ⟨S_, .f32⟩
  | .hbm, ⟨29, _⟩ => ⟨S16x8x4x256, .f32⟩
  | .hbm, ⟨30, _⟩ => ⟨S16x8x4x256x1, .f32⟩
  | .hbm, ⟨31, _⟩ => ⟨S16x8x4x256x257, .f32⟩
  | .hbm, ⟨32, _⟩ => ⟨S16x8x4x256x257, .f32⟩
  | .hbm, ⟨33, _⟩ => ⟨S16x8x4x256x256, .f32⟩
  | .hbm, ⟨34, _⟩ => ⟨S16x8x64x4x256, .f32⟩
  | .hbm, ⟨35, _⟩ => ⟨S16x256x8x4x64, .f32⟩
  | .hbm, ⟨36, _⟩ => ⟨S4096x2048, .f32⟩
  | .hbm, ⟨37, _⟩ => ⟨S4096x2048, .bf16⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Kernel14.lean ====
abbrev S6144x6144 : Shape := ⟨2, ![6144, 6144]⟩
abbrev S3x2048 : Shape := ⟨2, ![3, 2048]⟩
abbrev S2048 : Shape := ⟨1, ![2048]⟩
abbrev S1x2048 : Shape := ⟨2, ![1, 2048]⟩
abbrev S4096x2048 : Shape := ⟨2, ![4096, 2048]⟩
abbrev S256x512 : Shape := ⟨2, ![256, 512]⟩
abbrev S3x512 : Shape := ⟨2, ![3, 512]⟩
abbrev S1x512 : Shape := ⟨2, ![1, 512]⟩

abbrev nBuf : Space → Nat
  | .hbm => 5
  | .vmem => 12
  | .smem => 0
  | _ => 0

abbrev bufTy : (tb : Table) → Fin (tcTables nBuf tb) → BufTy
  | .hbm, ⟨0, _⟩ => ⟨S6144x6144, .bf16⟩
  | .hbm, ⟨1, _⟩ => ⟨S3x2048, .f32⟩
  | .hbm, ⟨2, _⟩ => ⟨S2048, .f32⟩
  | .hbm, ⟨3, _⟩ => ⟨S1x2048, .f32⟩
  | .hbm, ⟨4, _⟩ => ⟨S4096x2048, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S256x512, .bf16⟩
  | .local _ .vmem, ⟨11, _⟩ => ⟨S256x512, .bf16⟩
  | _, _ => ⟨S6144x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference14Ideal.lean ====
abbrev S6144x6144 : Shape := ⟨2, ![6144, 6144]⟩
abbrev S3x2048 : Shape := ⟨2, ![3, 2048]⟩
abbrev S2048 : Shape := ⟨1, ![2048]⟩
abbrev S4096x6144 : Shape := ⟨2, ![4096, 6144]⟩
abbrev S16x256x6144 : Shape := ⟨3, ![16, 256, 6144]⟩
abbrev S16x256x2048 : Shape := ⟨3, ![16, 256, 2048]⟩
abbrev S_ : Shape := ⟨0, ![]⟩
abbrev S16x258x2048 : Shape := ⟨3, ![16, 258, 2048]⟩
abbrev S1x2048 : Shape := ⟨2, ![1, 2048]⟩
abbrev S1x1x2048 : Shape := ⟨3, ![1, 1, 2048]⟩
abbrev S4096x2048 : Shape := ⟨2, ![4096, 2048]⟩

abbrev nBuf : Space → Nat
  | .hbm => 39
  | .vmem => 0
  | .smem => 0
  | _ => 0

abbrev bufTy : (tb : Table) → Fin (tcTables nBuf tb) → BufTy
  | .hbm, ⟨0, _⟩ => ⟨S6144x6144, .bf16⟩
  | .hbm, ⟨1, _⟩ => ⟨S3x2048, .f32⟩
  | .hbm, ⟨2, _⟩ => ⟨S2048, .f32⟩
  | .hbm, ⟨3, _⟩ => ⟨S6144x6144, .f32⟩
  | .hbm, ⟨4, _⟩ => ⟨S4096x6144, .f32⟩
  | .hbm, ⟨5, _⟩ => ⟨S16x256x6144, .f32⟩
  | .hbm, ⟨6, _⟩ => ⟨S16x256x2048, .f32⟩
  | .hbm, ⟨7, _⟩ => ⟨S16x256x2048, .f32⟩
  | .hbm, ⟨8, _⟩ => ⟨S16x256x2048, .f32⟩
  | .hbm, ⟨9, _⟩ => ⟨S16x256x2048, .f32⟩
  | .hbm, ⟨10, _⟩ => ⟨S_, .i32⟩
  | .hbm, ⟨11, _⟩ => ⟨S_, .f32⟩
  | .hbm, ⟨12, _⟩ => ⟨S16x258x2048, .f32⟩
  | .hbm, ⟨13, _⟩ => ⟨S16x256x2048, .f32⟩
  | .hbm, ⟨14, _⟩ => ⟨S1x2048, .f32⟩
  | .hbm, ⟨15, _⟩ => ⟨S2048, .f32⟩
  | .hbm, ⟨16, _⟩ => ⟨S1x1x2048, .f32⟩
  | .hbm, ⟨17, _⟩ => ⟨S16x256x2048, .f32⟩
  | .hbm, ⟨18, _⟩ => ⟨S16x256x2048, .f32⟩
  | .hbm, ⟨19, _⟩ => ⟨S16x256x2048, .f32⟩
  | .hbm, ⟨20, _⟩ => ⟨S1x2048, .f32⟩
  | .hbm, ⟨21, _⟩ => ⟨S2048, .f32⟩
  | .hbm, ⟨22, _⟩ => ⟨S1x1x2048, .f32⟩
  | .hbm, ⟨23, _⟩ => ⟨S16x256x2048, .f32⟩
  | .hbm, ⟨24, _⟩ => ⟨S16x256x2048, .f32⟩
  | .hbm, ⟨25, _⟩ => ⟨S16x256x2048, .f32⟩
  | .hbm, ⟨26, _⟩ => ⟨S16x256x2048, .f32⟩
  | .hbm, ⟨27, _⟩ => ⟨S1x2048, .f32⟩
  | .hbm, ⟨28, _⟩ => ⟨S2048, .f32⟩
  | .hbm, ⟨29, _⟩ => ⟨S1x1x2048, .f32⟩
  | .hbm, ⟨30, _⟩ => ⟨S16x256x2048, .f32⟩
  | .hbm, ⟨31, _⟩ => ⟨S16x256x2048, .f32⟩
  | .hbm, ⟨32, _⟩ => ⟨S16x256x2048, .f32⟩
  | .hbm, ⟨33, _⟩ => ⟨S1x1x2048, .f32⟩
  | .hbm, ⟨34, _⟩ => ⟨S16x256x2048, .f32⟩
  | .hbm, ⟨35, _⟩ => ⟨S16x256x2048, .f32⟩
  | .hbm, ⟨36, _⟩ => ⟨S16x256x2048, .f32⟩
  | .hbm, ⟨37, _⟩ => ⟨S4096x2048, .f32⟩
  | .hbm, ⟨38, _⟩ => ⟨S4096x2048, .bf16⟩
  | _, _ => ⟨S6144x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]
-- ==== Kernel15.lean ====
abbrev S6144x6144 : Shape := ⟨2, ![6144, 6144]⟩
abbrev S3x2048 : Shape := ⟨2, ![3, 2048]⟩
abbrev S2048 : Shape := ⟨1, ![2048]⟩
abbrev S1x2048 : Shape := ⟨2, ![1, 2048]⟩
abbrev S2048x2048 : Shape := ⟨2, ![2048, 2048]⟩
abbrev S1024x512 : Shape := ⟨2, ![1024, 512]⟩
abbrev S3x512 : Shape := ⟨2, ![3, 512]⟩
abbrev S1x512 : Shape := ⟨2, ![1, 512]⟩

abbrev nBuf : Space → Nat
  | .hbm => 5
  | .vmem => 12
  | .smem => 0
  | _ => 0

abbrev bufTy : (tb : Table) → Fin (tcTables nBuf tb) → BufTy
  | .hbm, ⟨0, _⟩ => ⟨S6144x6144, .bf16⟩
  | .hbm, ⟨1, _⟩ => ⟨S3x2048, .f32⟩
  | .hbm, ⟨2, _⟩ => ⟨S2048, .f32⟩
  | .hbm, ⟨3, _⟩ => ⟨S1x2048, .f32⟩
  | .hbm, ⟨4, _⟩ => ⟨S2048x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | _, _ => ⟨S6144x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c4_i32_0 : BitVec 32 := 4#32
  let v1 : BitVec 32 := Scalar.addi c4_i32_0 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c8_i32 : BitVec 32 := 8#32
  let v1 : BitVec 32 := Scalar.addi c8_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference15Ideal.lean ====
abbrev S6144x6144 : Shape := ⟨2, ![6144, 6144]⟩
abbrev S3x2048 : Shape := ⟨2, ![3, 2048]⟩
abbrev S2048 : Shape := ⟨1, ![2048]⟩
abbrev S2048x6144 : Shape := ⟨2, ![2048, 6144]⟩
abbrev S2x1024x6144 : Shape := ⟨3, ![2, 1024, 6144]⟩
abbrev S2x1024x2048 : Shape := ⟨3, ![2, 1024, 2048]⟩
abbrev S_ : Shape := ⟨0, ![]⟩
abbrev S2x1026x2048 : Shape := ⟨3, ![2, 1026, 2048]⟩
abbrev S1x2048 : Shape := ⟨2, ![1, 2048]⟩
abbrev S1x1x2048 : Shape := ⟨3, ![1, 1, 2048]⟩
abbrev S2048x2048 : Shape := ⟨2, ![2048, 2048]⟩

abbrev nBuf : Space → Nat
  | .hbm => 39
  | .vmem => 0
  | .smem => 0
  | _ => 0

abbrev bufTy : (tb : Table) → Fin (tcTables nBuf tb) → BufTy
  | .hbm, ⟨0, _⟩ => ⟨S6144x6144, .bf16⟩
  | .hbm, ⟨1, _⟩ => ⟨S3x2048, .f32⟩
  | .hbm, ⟨2, _⟩ => ⟨S2048, .f32⟩
  | .hbm, ⟨3, _⟩ => ⟨S6144x6144, .f32⟩
  | .hbm, ⟨4, _⟩ => ⟨S2048x6144, .f32⟩
  | .hbm, ⟨5, _⟩ => ⟨S2x1024x6144, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .hbm, ⟨9, _⟩ => ⟨S2x1024x2048, .f32⟩
  | .hbm, ⟨10, _⟩ => ⟨S_, .i32⟩
  | .hbm, ⟨11, _⟩ => ⟨S_, .f32⟩
  | .hbm, ⟨12, _⟩ => ⟨S2x1026x2048, .f32⟩
  | .hbm, ⟨13, _⟩ => ⟨S2x1024x2048, .f32⟩
  | .hbm, ⟨14, _⟩ => ⟨S1x2048, .f32⟩
  | .hbm, ⟨15, _⟩ => ⟨S2048, .f32⟩
  | .hbm, ⟨16, _⟩ => ⟨S1x1x2048, .f32⟩
  | .hbm, ⟨17, _⟩ => ⟨S2x1024x2048, .f32⟩
  | .hbm, ⟨18, _⟩ => ⟨S2x1024x2048, .f32⟩
  | .hbm, ⟨19, _⟩ => ⟨S2x1024x2048, .f32⟩
  | .hbm, ⟨20, _⟩ => ⟨S1x2048, .f32⟩
  | .hbm, ⟨21, _⟩ => ⟨S2048, .f32⟩
  | .hbm, ⟨22, _⟩ => ⟨S1x1x2048, .f32⟩
  | .hbm, ⟨23, _⟩ => ⟨S2x1024x2048, .f32⟩
  | .hbm, ⟨24, _⟩ => ⟨S2x1024x2048, .f32⟩
  | .hbm, ⟨25, _⟩ => ⟨S2x1024x2048, .f32⟩
  | .hbm, ⟨26, _⟩ => ⟨S2x1024x2048, .f32⟩
  | .hbm, ⟨27, _⟩ => ⟨S1x2048, .f32⟩
  | .hbm, ⟨28, _⟩ => ⟨S2048, .f32⟩
  | .hbm, ⟨29, _⟩ => ⟨S1x1x2048, .f32⟩
  | .hbm, ⟨30, _⟩ => ⟨S2x1024x2048, .f32⟩
  | .hbm, ⟨31, _⟩ => ⟨S2x1024x2048, .f32⟩
  | .hbm, ⟨32, _⟩ => ⟨S2x1024x2048, .f32⟩
  | .hbm, ⟨33, _⟩ => ⟨S1x1x2048, .f32⟩
  | .hbm, ⟨34, _⟩ => ⟨S2x1024x2048, .f32⟩
  | .hbm, ⟨35, _⟩ => ⟨S2x1024x2048, .f32⟩
  | .hbm, ⟨36, _⟩ => ⟨S2x1024x2048, .f32⟩
  | .hbm, ⟨37, _⟩ => ⟨S2048x2048, .f32⟩
  | .hbm, ⟨38, _⟩ => ⟨S2048x2048, .bf16⟩
  | _, _ => ⟨S6144x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]
-- ==== Kernel16.lean ====
abbrev S6144x2048 : Shape := ⟨2, ![6144, 2048]⟩
abbrev S4x2048x2048 : Shape := ⟨3, ![4, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S6144x2048, .bf16⟩
  | .hbm, ⟨1, _⟩ => ⟨S4x2048x2048, .f32⟩
  | .hbm, ⟨2, _⟩ => ⟨S6144x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .f32⟩
  | .local _ .vmem, ⟨3, _⟩ => ⟨S512x2048, .bf16⟩
  | .local _ .vmem, ⟨4, _⟩ => ⟨S512x2048, .bf16⟩
  | .local _ .vmem, ⟨5, _⟩ => ⟨S2048x2048, .bf16⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S6144x2048 : Shape := ⟨2, ![6144, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S4x2048x2048, .f32⟩
  | .hbm, ⟨2, _⟩ => ⟨S1x2048x2048, .f32⟩
  | .hbm, ⟨3, _⟩ => ⟨S2048x2048, .f32⟩
  | .hbm, ⟨4, _⟩ => ⟨S6144x2048, .f32⟩
  | .hbm, ⟨5, _⟩ => ⟨S6144x2048, .f32⟩
  | .hbm, ⟨6, _⟩ => ⟨S6144x2048, .bf16⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel17.lean ====
abbrev S6144x2048 : Shape := ⟨2, ![6144, 2048]⟩
abbrev S4x2048x2048 : Shape := ⟨3, ![4, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S6144x2048, .bf16⟩
  | .hbm, ⟨1, _⟩ => ⟨S4x2048x2048, .f32⟩
  | .hbm, ⟨2, _⟩ => ⟨S6144x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .f32⟩
  | .local _ .vmem, ⟨3, _⟩ => ⟨S512x2048, .bf16⟩
  | .local _ .vmem, ⟨4, _⟩ => ⟨S512x2048, .bf16⟩
  | .local _ .vmem, ⟨5, _⟩ => ⟨S2048x2048, .bf16⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S6144x2048 : Shape := ⟨2, ![6144, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S4x2048x2048, .f32⟩
  | .hbm, ⟨2, _⟩ => ⟨S1x2048x2048, .f32⟩
  | .hbm, ⟨3, _⟩ => ⟨S2048x2048, .f32⟩
  | .hbm, ⟨4, _⟩ => ⟨S6144x2048, .f32⟩
  | .hbm, ⟨5, _⟩ => ⟨S6144x2048, .f32⟩
  | .hbm, ⟨6, _⟩ => ⟨S6144x2048, .bf16⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel18.lean ====
abbrev S6144x2048 : Shape := ⟨2, ![6144, 2048]⟩
abbrev S4x2048x2048 : Shape := ⟨3, ![4, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S6144x2048, .bf16⟩
  | .hbm, ⟨1, _⟩ => ⟨S4x2048x2048, .f32⟩
  | .hbm, ⟨2, _⟩ => ⟨S6144x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .f32⟩
  | .local _ .vmem, ⟨3, _⟩ => ⟨S512x2048, .bf16⟩
  | .local _ .vmem, ⟨4, _⟩ => ⟨S512x2048, .bf16⟩
  | .local _ .vmem, ⟨5, _⟩ => ⟨S2048x2048, .bf16⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S6144x2048 : Shape := ⟨2, ![6144, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S4x2048x2048, .f32⟩
  | .hbm, ⟨2, _⟩ => ⟨S1x2048x2048, .f32⟩
  | .hbm, ⟨3, _⟩ => ⟨S2048x2048, .f32⟩
  | .hbm, ⟨4, _⟩ => ⟨S6144x2048, .f32⟩
  | .hbm, ⟨5, _⟩ => ⟨S6144x2048, .f32⟩
  | .hbm, ⟨6, _⟩ => ⟨S6144x2048, .bf16⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Softmax.lean ====
/- The softmax-weighted sum over the extended reals: normalising after the sum is normalising each weight before it,
   wherever the weights are finite. No program is named here. -/
module

public import Idealize.ShloMosaic.PureOps.Ideal.Laws
public import Idealize.ShloMosaic.Lib.Pointwise

@[expose] public section

noncomputable section

namespace Cert.Softmax

open Idealize.ShloMosaic

/-- A value that is a real number. -/
def Fin' (x : EReal) : Prop := ∃ r : ℝ, x = (r : EReal)

theorem Fin'.add {x y : EReal} (hx : Fin' x) (hy : Fin' y) : Fin' (x + y) := by
  obtain ⟨a, rfl⟩ := hx; obtain ⟨b, rfl⟩ := hy; exact ⟨a + b, (EReal.coe_add a b).symm⟩

theorem Fin'.sub {x y : EReal} (hx : Fin' x) (hy : Fin' y) : Fin' (x - y) := by
  obtain ⟨a, rfl⟩ := hx; obtain ⟨b, rfl⟩ := hy; exact ⟨a - b, (EReal.coe_sub a b).symm⟩

theorem Fin'.mul {x y : EReal} (hx : Fin' x) (hy : Fin' y) : Fin' (x * y) := by
  obtain ⟨a, rfl⟩ := hx; obtain ⟨b, rfl⟩ := hy; exact ⟨a * b, (EReal.coe_mul a b).symm⟩

theorem Fin'.max {x y : EReal} (hx : Fin' x) (hy : Fin' y) : Fin' (max x y) := by
  rcases max_choice x y with h | h <;> rw [h] <;> assumption

theorem Fin'.sum {ι : Type*} (s : Finset ι) {f : ι → EReal} (h : ∀ i, Fin' (f i)) : Fin' (∑ i ∈ s, f i) := by
  classical
  induction s using Finset.induction_on with
  | empty => exact ⟨0, by simp⟩
  | insert a s ha ih => rw [Finset.sum_insert ha]; exact (h a).add ih

/-- What lies strictly between the infinities is a real number. -/
theorem fin'_of_lt {x : EReal} (h₁ : ⊥ < x) (h₂ : x < ⊤) : Fin' x :=
  ⟨x.toReal, (EReal.coe_toReal h₂.ne h₁.ne').symm⟩

/-- The largest of finitely many reals (at least one of them) is a real. -/
theorem Fin'.foldMax {n : ℕ} {f : Fin (n + 1) → EReal} (h : ∀ i, Fin' (f i)) :
    Fin' (Finset.univ.fold Max.max ⊥ f) := by
  refine fin'_of_lt ?_ ?_
  · obtain ⟨r, hr⟩ := h 0
    exact (hr ▸ EReal.bot_lt_coe r : ⊥ < f 0).trans_le
      (((Finset.fold_max_le _).mp le_rfl).2 0 (Finset.mem_univ _))
  · refine Finset.induction_on (motive := fun s : Finset (Fin (n + 1)) => s.fold Max.max ⊥ f < ⊤) _ bot_lt_top ?_
    intro a s ha ih
    obtain ⟨r, hr⟩ := h a
    rw [Finset.fold_insert ha, hr]
    exact max_lt (EReal.coe_lt_top r) ih

/-- The largest of a family laid end to end is the larger of the two parts' largest. -/
theorem fold_max_two_halves {N : ℕ} (a b : ℕ) (hN : a + b = N) (f : Fin N → EReal) :
    Finset.univ.fold max ⊥ f
      = max (Finset.univ.fold max ⊥ fun i : Fin a => f ⟨i.val, by omega⟩)
          (Finset.univ.fold max ⊥ fun i : Fin b => f ⟨a + i.val, by omega⟩) := by
  subst hN
  refine eq_of_forall_ge_iff fun c => ?_
  simp only [Finset.fold_max_le, max_le_iff, bot_le, true_and, Finset.mem_univ, forall_true_left]
  constructor
  · exact fun h => ⟨fun i => h _, fun i => h _⟩
  · rintro ⟨h₁, h₂⟩ i
    by_cases hi : i.val < a
    · exact h₁ ⟨i.val, hi⟩
    · have := h₂ ⟨i.val - a, by omega⟩
      simpa [Nat.add_sub_cancel' (Nat.le_of_not_lt hi)] using this

/-- The exponential of a real is a positive real. -/
theorem exp_pos {x : EReal} (h : Fin' x) : ∃ r : ℝ, 0 < r ∧ Ideal.exp x = (r : EReal) := by
  obtain ⟨a, rfl⟩ := h; exact ⟨Real.exp a, Real.exp_pos a, rfl⟩

theorem Fin'.exp {x : EReal} (h : Fin' x) : Fin' (Ideal.exp x) := by
  obtain ⟨r, -, hr⟩ := exp_pos h; exact ⟨r, hr⟩

/-- A finite non-negative factor passes through a finite sum of any extended reals. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- THE NORMALISATION: weights summed and then divided by a positive real `l`, or each divided by `l` and then summed. -/
theorem normalise {ι : Type*} (s : Finset ι) (e v : ι → EReal) {l : EReal} (hl : ∃ r : ℝ, 0 < r ∧ l = (r : EReal)) :
    (∑ i ∈ s, e i * v i) * Ideal.div 1 l = ∑ i ∈ s, Ideal.div (e i) l * v i := by
  obtain ⟨r, hr, rfl⟩ := hl
  rw [Ideal.div_coe hr.ne', one_mul, sum_mul_coe s _ (one_div_pos.mpr hr).le]
  refine Finset.sum_congr rfl fun i _ => ?_
  rw [Ideal.div_coe hr.ne', mul_right_comm]

/-- A sum of exponentials of reals, at least one of them, is a positive real. -/
theorem sum_exp_pos {n : ℕ} {f : Fin (n + 1) → EReal} (h : ∀ i, Fin' (f i)) :
    ∃ r : ℝ, 0 < r ∧ ∑ i, Ideal.exp (f i) = (r : EReal) := by
  choose g hg using fun i => exp_pos (h i)
  refine ⟨∑ i, g i, Finset.sum_pos (fun i _ => (hg i).1) Finset.univ_nonempty, ?_⟩
  rw [Finset.sum_congr rfl fun i _ => (hg i).2]
  exact (map_sum (⟨⟨((↑) : ℝ → EReal), EReal.coe_zero⟩, EReal.coe_add⟩ : ℝ →+ EReal) g Finset.univ).symm

/-- The scaled score of a query row against a key row, each in two parts. -/
def score {a b : ℕ} (q k : Fin a → EReal) (q' k' : Fin b → EReal) (c : EReal) : EReal :=
  (∑ i, q i * k i + ∑ i, q' i * k' i) * c

theorem Fin'.score {a b : ℕ} {q k : Fin a → EReal} {q' k' : Fin b → EReal} {c : EReal} (hq : ∀ i, Fin' (q i))
    (hk : ∀ i, Fin' (k i)) (hq' : ∀ i, Fin' (q' i)) (hk' : ∀ i, Fin' (k' i)) (hc : Fin' c) :
    Fin' (score q k q' k' c) :=
  ((Fin'.sum _ fun i => (hq i).mul (hk i)).add (Fin'.sum _ fun i => (hq' i).mul (hk' i))).mul hc

theorem score_congr {a b : ℕ} {q k q₂ k₂ : Fin a → EReal} {q' k' q₂' k₂' : Fin b → EReal} (c : EReal)
    (h₁ : ∀ i, q i = q₂ i) (h₂ : ∀ i, k i = k₂ i) (h₃ : ∀ i, q' i = q₂' i) (h₄ : ∀ i, k' i = k₂' i) : score q k q' k' c = score q₂ k₂ q₂' k₂' c := by
  rw [funext h₁, funext h₂, funext h₃, funext h₄]

/-- The attention row as the reference writes it: every weight normalised, then the weighted sum. -/
def row {n : ℕ} (s v : Fin n → EReal) : EReal :=
  ∑ j, v j * Ideal.div (Ideal.exp (s j - max ⊥ (Finset.univ.fold max ⊥ s)))
    (∑ j, Ideal.exp (s j - max ⊥ (Finset.univ.fold max ⊥ s)))

/-- The attention row from one part, normalised after the weighted sum. -/
theorem row_eq_one {n : ℕ} (s v : Fin (n + 1) → EReal) (hs : ∀ i, Fin' (s i)) :
    (∑ j, Ideal.exp (s j - Finset.univ.fold max ⊥ s) * v j)
        * Ideal.div 1 (∑ j, Ideal.exp (s j - Finset.univ.fold max ⊥ s)) = row s v := by
  rw [normalise _ _ _ (sum_exp_pos fun i => (hs i).sub (Fin'.foldMax hs)), row, max_eq_right bot_le]
  exact Finset.sum_congr rfl fun i _ => mul_comm _ _

/-- The attention row from two parts (keys laid end to end), normalised after the weighted sum. -/
theorem row_eq_two {n : ℕ} (a b : ℕ) (hN : a + b = n + 1) (s v : Fin (n + 1) → EReal) (hs : ∀ i, Fin' (s i))
    (s₁ v₁ : Fin a → EReal) (s₂ v₂ : Fin b → EReal)
    (h₁ : ∀ i : Fin a, s ⟨i.val, by omega⟩ = s₁ i) (h₂ : ∀ i : Fin b, s ⟨a + i.val, by omega⟩ = s₂ i)
    (g₁ : ∀ i : Fin a, v ⟨i.val, by omega⟩ = v₁ i) (g₂ : ∀ i : Fin b, v ⟨a + i.val, by omega⟩ = v₂ i) :
    (∑ j, Ideal.exp (s₁ j - max (Finset.univ.fold max ⊥ s₁) (Finset.univ.fold max ⊥ s₂)) * v₁ j
          + ∑ j, Ideal.exp (s₂ j - max (Finset.univ.fold max ⊥ s₁) (Finset.univ.fold max ⊥ s₂)) * v₂ j)
        * Ideal.div 1 (∑ j, Ideal.exp (s₁ j - max (Finset.univ.fold max ⊥ s₁) (Finset.univ.fold max ⊥ s₂))
          + ∑ j, Ideal.exp (s₂ j - max (Finset.univ.fold max ⊥ s₁) (Finset.univ.fold max ⊥ s₂))) = row s v := by
  rw [← row_eq_one s v hs, fold_max_two_halves a b hN s]
  simp only [h₁, h₂, Fin.sum_univ_two_halves a b hN, g₁, g₂]

/-- The attention row with a sink: one more score, `f`'s last, takes part in the softmax and weighs nothing. -/
def sinkRow {n : ℕ} (f : Fin (n + 1) → EReal) (v : Fin n → EReal) : EReal :=
  ∑ j : Fin n, v j * Ideal.div (Ideal.exp (f j.castSucc - max ⊥ (Finset.univ.fold max ⊥ f)))
    (∑ j, Ideal.exp (f j - max ⊥ (Finset.univ.fold max ⊥ f)))

/-- The attention row with a sink, the sink met after the keys and the row normalised after the weighted sum. -/
theorem sinkRow_eq {n : ℕ} (f : Fin (n + 1) → EReal) (v : Fin n → EReal) (hf : ∀ i, Fin' (f i)) (s : Fin n → EReal) (z : EReal)
    (h : ∀ i : Fin n, f i.castSucc = s i) (hz : f (Fin.last n) = z) :
    (∑ j, Ideal.exp (s j - max (Finset.univ.fold max ⊥ s) z) * v j)
        * Ideal.div 1 (∑ j, Ideal.exp (s j - max (Finset.univ.fold max ⊥ s) z) + Ideal.exp (z - max (Finset.univ.fold max ⊥ s) z)) = sinkRow f v := by
  have hM : max (Finset.univ.fold max ⊥ s) z = Finset.univ.fold max ⊥ f := by
    have h₁ : (Finset.univ.fold max ⊥ fun i : Fin 1 => f ⟨n + i.val, by omega⟩) = z := by
      rw [Finset.univ_unique (α := Fin 1), Finset.fold_singleton, max_eq_left bot_le]
      exact hz
    rw [fold_max_two_halves n 1 rfl f, h₁]
    exact congrArg (fun g => max (Finset.univ.fold max ⊥ g) z) (funext fun i => (h i).symm)
  have hl : ∑ j, Ideal.exp (s j - Finset.univ.fold max ⊥ f) + Ideal.exp (z - Finset.univ.fold max ⊥ f)
      = ∑ j, Ideal.exp (f j - Finset.univ.fold max ⊥ f) := by
    rw [Fin.sum_univ_castSucc, hz]
    simp only [h]
  rw [hM, hl, normalise _ _ _ (sum_exp_pos fun i => (hf i).sub (Fin'.foldMax hf)), sinkRow, max_eq_right bot_le]
  exact Finset.sum_congr rfl fun i _ => by rw [h, mul_comm]

end Cert.Softmax

end
-- ==== Proof.MlaSampleSpec.lean ====
/- The MLA attention of the sample group, one output element at a time: the scores of a query row against the 1280 keys
   (1024 latent ones, then 256 cached ones) and the values they weigh. -/
module

public import proofs.«01_k».proof.Proof.Softmax
public import Idealize.ShloMosaic.Lib.Pipeline.ValueKit

@[expose] public section

set_option maxRecDepth 16384

noncomputable section

namespace Cert.MlaSample

open Idealize.ShloMosaic Cert.Softmax

variable (q : FVec Ideal ⟨2, ![6144, 3072]⟩ .bf16) (qr : FVec Ideal ⟨2, ![2048, 1024]⟩ .bf16) (kv : FVec Ideal ⟨2, ![6656, 4096]⟩ .bf16)
  (kr : FVec Ideal ⟨2, ![2048, 64]⟩ .bf16) (cr : FVec Ideal ⟨3, ![2, 256, 64]⟩ .f32)

/-- The row of the up-projected latents that holds key `s` of batch `b`. -/
def kvAt (b : Fin 2) (s : Fin 1280) (k : Fin 4096) : EReal :=
  if h : s.val < 1024 then kv (ix2 (⟨4096 + (b.val * 1024 + s.val), by omega⟩ : Fin 6656) k)
  else kv (ix2 (⟨6144 + (b.val * 256 + (s.val - 1024)), by omega⟩ : Fin 6656) k)

/-- The rotary part of key `s` of batch `b`, shared by the heads. -/
def krAt (b : Fin 2) (s : Fin 1280) (k : Fin 64) : EReal :=
  if h : s.val < 1024 then kr (ix2 (⟨b.val * 1024 + s.val, by omega⟩ : Fin 2048) k)
  else cr (ix3 b (⟨s.val - 1024, by omega⟩ : Fin 256) k)

/-- The score of key `s` for the query of output row `r`, head `h`. -/
def sc (r : Fin 2048) (h : Fin 16) (s : Fin 1280) : EReal :=
  score (fun k : Fin 128 => q (ix2 (⟨4096 + r.val, by omega⟩ : Fin 6144) (⟨h.val * 128 + k.val, by omega⟩ : Fin 3072)))
    (fun k => kvAt kv ⟨r.val / 1024, by omega⟩ s ⟨h.val * 128 + k.val, by omega⟩)
    (fun k : Fin 64 => qr (ix2 r (⟨h.val * 64 + k.val, by omega⟩ : Fin 1024)))
    (fun k => krAt kr cr ⟨r.val / 1024, by omega⟩ s k) (Ideal.ofBits .f32 0x3D93CD3A#32)

/-- One output element: row `r`, column `128 h + d`. -/
def out (r : Fin 2048) (col : Fin 2048) : EReal :=
  row (sc q qr kv kr cr r ⟨col.val / 128, by omega⟩) fun s => kvAt kv ⟨r.val / 1024, by omega⟩ s ⟨2048 + col.val, by omega⟩

/-- The scale is a real number. -/
theorem scale_fin : Fin' (Ideal.ofBits .f32 0x3D93CD3A#32) := ⟨_, by simp [Ideal.ofBits, Ideal.ieee]; rfl⟩

theorem ofBits_neg_inf : Ideal.ofBits .f32 0xFF800000#32 = ⊥ := by simp [Ideal.ofBits, Ideal.ieee]

theorem ofBits_pos_inf : Ideal.ofBits .f32 0x7F800000#32 = ⊤ := by simp [Ideal.ofBits, Ideal.ieee]

/-- What the scores read is finite. -/
structure Finite : Prop where
  q : ∀ (r : Fin 2048) (k : Fin 2048), Fin' (q (ix2 (⟨4096 + r.val, by omega⟩ : Fin 6144) (⟨k.val, by omega⟩ : Fin 3072)))
  qr : ∀ (r : Fin 2048) (k : Fin 1024), Fin' (qr (ix2 r k))
  kv : ∀ (r : Fin 2560) (k : Fin 2048), Fin' (kv (ix2 (⟨4096 + r.val, by omega⟩ : Fin 6656) (⟨k.val, by omega⟩ : Fin 4096)))
  kr : ∀ (r : Fin 2048) (k : Fin 64), Fin' (kr (ix2 r k))
  cr : ∀ (b : Fin 2) (r : Fin 256) (k : Fin 64), Fin' (cr (ix3 b r k))

variable {q qr kv kr cr}

theorem sc_fin (H : Finite q qr kv kr cr) (r : Fin 2048) (h : Fin 16) (s : Fin 1280) : Fin' (sc q qr kv kr cr r h s) := by
  refine Fin'.score (fun k => H.q r ⟨h.val * 128 + k.val, by omega⟩) (fun k => ?_) (fun k => H.qr r _) (fun k => ?_) scale_fin
  · unfold kvAt
    split
    · exact H.kv ⟨r.val / 1024 * 1024 + s.val, by omega⟩ ⟨h.val * 128 + k.val, by omega⟩
    · have := H.kv ⟨2048 + (r.val / 1024 * 256 + (s.val - 1024)), by omega⟩ ⟨h.val * 128 + k.val, by omega⟩
      refine (congrArg Fin' (congrArg kv ?_)).mp this
      blk_ext
  · unfold krAt
    split
    · exact H.kr _ _
    · exact H.cr _ _ _

end Cert.MlaSample

end
-- ==== Proof.MlaSampleKernel.lean ====
/- The kernel's attention array, read one element at a time: each grid point writes 256 query rows, one head after another. -/
module

public import proofs.«01_k».proof.Proof.Gen.KernelIdeal.Value
public import proofs.«01_k».proof.Proof.MlaSampleSpec

@[expose] public section

set_option maxRecDepth 16384

noncomputable section

namespace Cert.MlaSample.Kern

open Cert.KernelIdeal Cert.KernelIdeal.Gen Idealize.ShloMosaic Idealize.ShloMosaic.TcCoe Idealize.SL.Sem
open Idealize.ShloMosaic.Pipeline (Dat)
open Cert.Softmax Cert.MlaSample

/-- One head of one block of query rows: the chain that every head runs over its own columns. -/
def headOut {F : FTy → Type} [FloatOps F] (kr : FVec F S1024x64 .bf16) (kr2 : FVec F S256x64 .f32) (qn : FVec F S256x128 .bf16) (qr : FVec F S256x64 .bf16)
    (kn : FVec F S1024x128 .bf16) (kn2 : FVec F S256x128 .bf16) (v : FVec F S1024x128 .bf16) (v2 : FVec F S256x128 .bf16) : FVec F S256x128 .bf16 :=
  k0_pay10 (k0_pay6 kr kr2 qn qr kn kn2) (k0_pay7 kr kr2 qn qr kn kn2) (k0_pay8 kr kr2 qn qr kn kn2) k0_pay9 v v2

theorem headOut_eq (kr : FVec Ideal S1024x64 .bf16) (kr2 : FVec Ideal S256x64 .f32) (qn : FVec Ideal S256x128 .bf16) (qr : FVec Ideal S256x64 .bf16)
    (kn : FVec Ideal S1024x128 .bf16) (kn2 : FVec Ideal S256x128 .bf16) (v : FVec Ideal S1024x128 .bf16) (v2 : FVec Ideal S256x128 .bf16) (x : S256x128.Idx)
    (s w : Fin 1280 → EReal) (hs : ∀ i, Fin' (s i))
    (h₁ : ∀ j : Fin 1024, s ⟨j.val, by omega⟩ = score (fun k : Fin 128 => qn (ix2 (x 0) k)) (fun k => kn (ix2 j k)) (fun k : Fin 64 => qr (ix2 (x 0) k)) (fun k => kr (ix2 j k)) (Ideal.ofBits .f32 0x3D93CD3A#32))
    (h₂ : ∀ j : Fin 256, s ⟨1024 + j.val, by omega⟩ = score (fun k : Fin 128 => qn (ix2 (x 0) k)) (fun k => kn2 (ix2 j k)) (fun k : Fin 64 => qr (ix2 (x 0) k)) (fun k => kr2 (ix2 j k)) (Ideal.ofBits .f32 0x3D93CD3A#32))
    (g₁ : ∀ j : Fin 1024, w ⟨j.val, by omega⟩ = v (ix2 j (x 1))) (g₂ : ∀ j : Fin 256, w ⟨1024 + j.val, by omega⟩ = v2 (ix2 j (x 1))) :
    headOut kr kr2 qn qr kn kn2 v v2 x = row s w := by
  refine Eq.trans ?_ (row_eq_two 1024 256 rfl s w hs _ _ _ _ h₁ h₂ g₁ g₂)
  pointwise [headOut, k0_pay10, k0_pay9, k0_pay8, k0_pay7, k0_pay6, k0_pay5, k0_pay4, k0_pay3, k0_pay2]
  rw [ofBits_neg_inf]
  rfl

variable (m : (ℓ : Loc nD τ sig) → Buf (Elt Ideal) ℓ) (c : Dev nD)

/-- Which block of each array grid point `t` reads and writes. -/
theorem idx : ∀ t : Fin cfg0.N,
    (win0_0.index t 0 = 16 + t.val ∧ win0_0.index t 1 = 0) ∧ (win0_1.index t 0 = t.val ∧ win0_1.index t 1 = 0)
    ∧ (win0_2.index t 0 = 4 + t.val / 4 ∧ win0_2.index t 1 = 0) ∧ (win0_3.index t 0 = 4 + t.val / 4 ∧ win0_3.index t 1 = 1)
    ∧ (win0_4.index t 0 = t.val / 4 ∧ win0_4.index t 1 = 0) ∧ (win0_5.index t 0 = 24 + t.val / 4 ∧ win0_5.index t 1 = 0)
    ∧ (win0_6.index t 0 = 24 + t.val / 4 ∧ win0_6.index t 1 = 1) ∧ (win0_7.index t 0 = t.val / 4 ∧ win0_7.index t 1 = 0)
    ∧ (win0_8.index t 0 = t.val ∧ win0_8.index t 1 = 0) :=
  (by decide +kernel : ∀ t : Fin grid0.N, _)

theorem lt (t : Fin cfg0.N) : t.val < 8 := t.isLt

/-! What each input block holds, in the argument arrays' own indices. -/

theorem in0 (t : Fin cfg0.N) (r : Fin 256) (k : Fin 2048) :
    X0_0 m c t (ix2 r k) = m ((c.tc : Thread nD τ).loc main_arg0) (ix2 (⟨4096 + (256 * t.val + r.val), by have := lt t; omega⟩ : Fin 6144) (⟨k.val, by omega⟩ : Fin 3072)) := by
  unfold X0_0 Pipeline.Window.fill
  rw [dif_pos (moved0_0 t _)]
  blk_ext! [iblk, V, idx t]

theorem in1 (t : Fin cfg0.N) (r : Fin 256) (k : Fin 1024) :
    iblk m c 1 t (ix2 r k) = m ((c.tc : Thread nD τ).loc main_arg1) (ix2 (⟨256 * t.val + r.val, by have := lt t; omega⟩ : Fin 2048) k) := by
  blk_ext! [iblk, V, idx t]

theorem in2 (t : Fin cfg0.N) (r : Fin 1024) (k : Fin 2048) :
    X0_2 m c t (ix2 r k) = m ((c.tc : Thread nD τ).loc main_arg2) (ix2 (⟨4096 + (t.val / 4 * 1024 + r.val), by have := lt t; omega⟩ : Fin 6656) (⟨k.val, by omega⟩ : Fin 4096)) := by
  unfold X0_2 Pipeline.Window.fill
  rw [dif_pos (moved0_2 t _)]
  blk_ext! [iblk, V, idx t]

theorem in3 (t : Fin cfg0.N) (r : Fin 1024) (k : Fin 2048) :
    X0_3 m c t (ix2 r k) = m ((c.tc : Thread nD τ).loc main_arg2) (ix2 (⟨4096 + (t.val / 4 * 1024 + r.val), by have := lt t; omega⟩ : Fin 6656) (⟨2048 + k.val, by omega⟩ : Fin 4096)) := by
  unfold X0_3 Pipeline.Window.fill
  rw [dif_pos (moved0_3 t _)]
  blk_ext! [iblk, V, idx t]

theorem in4 (t : Fin cfg0.N) (r : Fin 1024) (k : Fin 64) :
    iblk m c 4 t (ix2 r k) = m ((c.tc : Thread nD τ).loc main_arg3) (ix2 (⟨t.val / 4 * 1024 + r.val, by have := lt t; omega⟩ : Fin 2048) k) := by
  blk_ext! [iblk, V, idx t]

theorem in5 (t : Fin cfg0.N) (r : Fin 256) (k : Fin 2048) :
    iblk m c 5 t (ix2 r k) = m ((c.tc : Thread nD τ).loc main_arg2) (ix2 (⟨6144 + (t.val / 4 * 256 + r.val), by have := lt t; omega⟩ : Fin 6656) (⟨k.val, by omega⟩ : Fin 4096)) := by
  blk_ext! [iblk, V, idx t]

theorem in6 (t : Fin cfg0.N) (r : Fin 256) (k : Fin 2048) :
    iblk m c 6 t (ix2 r k) = m ((c.tc : Thread nD τ).loc main_arg2) (ix2 (⟨6144 + (t.val / 4 * 256 + r.val), by have := lt t; omega⟩ : Fin 6656) (⟨2048 + k.val, by omega⟩ : Fin 4096)) := by
  blk_ext! [iblk, V, idx t]

theorem in7 (t : Fin cfg0.N) (r : Fin 256) (k : Fin 64) :
    iblk m c 7 t (ix2 r k) = m ((c.tc : Thread nD τ).loc main_arg4) (ix3 (⟨t.val / 4, by have := lt t; omega⟩ : Fin 2) r k) := by
  blk_ext! [iblk, V, idx t]

/-- One output element over this memory's arguments. -/
abbrev outM (r col : Fin 2048) : EReal :=
  out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r col

/-- A load of `n` columns from column `o` on. -/
theorem ld_cols {Val : EltTy → Type} {e : EltTy} {R C n o : ℕ} (X : (⟨2, ![R, C]⟩ : Shape).Idx → Val e) (inb : ∀ a, (![0, o] : Fin 2 → ℕ) a + (![R, n] : Fin 2 → ℕ) a ≤ (⟨2, ![R, C]⟩ : Shape).size a)
    (i : Fin R) (k : Fin n) :
    View.ld X (Rect.unit ![0, o] ![R, n] inb) (ix2 i k) = X (ix2 i (⟨o + k.val, by have := inb 1; simp at this; omega⟩ : Fin C)) := by
  rw [View.ld_apply]
  refine congrArg X (funext fun a => Fin.ext ?_)
  match a with
  | 0 => simp
  | 1 => simp

/-- The rows and columns of the output block of a grid point. -/
theorem row_emb (t : Fin cfg0.N) (y : ((cfg0.win 8).xblock (cfg0.grid.coords t)).Idx) :
    ((((View.whole main_v1).slice (win0_8.rect t)).emb y 0 : Fin _) : ℕ) = 256 * t.val + (y 0).val := by
  have h : ((win0_8.rect t).emb y 0 : ℕ) = win0_8.index t 0 * 256 + (y 0).val := win0_8.rect_emb_val t y 0
  rw [(idx t).2.2.2.2.2.2.2.2.1] at h
  exact h.trans (by omega)

theorem col_emb (t : Fin cfg0.N) (y : ((cfg0.win 8).xblock (cfg0.grid.coords t)).Idx) :
    ((((View.whole main_v1).slice (win0_8.rect t)).emb y 1 : Fin _) : ℕ) = (y 1).val := by
  have h : ((win0_8.rect t).emb y 1 : ℕ) = win0_8.index t 1 * 2048 + (y 1).val := win0_8.rect_emb_val t y 1
  rw [(idx t).2.2.2.2.2.2.2.2.2] at h
  exact h.trans (by omega)

/-- What the head that starts at column `o` (and at rotary column `o'`) stores is the output element of its row and column. -/
theorem head_block (H : Finite (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    (t : Fin cfg0.N) (x : S256x128.Idx) (o o' : ℕ) (ho : o % 128 = 0) (ho' : 2 * o' = o) (r col : Fin 2048)
    (hr : r.val = 256 * t.val + (x 0).val) (hc : col.val = o + (x 1).val)
    (i₁ : ∀ a, (![0, o] : Fin 2 → ℕ) a + (![256, 128] : Fin 2 → ℕ) a ≤ S256x2048.size a) (i₂ : ∀ a, (![0, o'] : Fin 2 → ℕ) a + (![256, 64] : Fin 2 → ℕ) a ≤ S256x1024.size a)
    (i₃ : ∀ a, (![0, o] : Fin 2 → ℕ) a + (![1024, 128] : Fin 2 → ℕ) a ≤ S1024x2048.size a) :
    headOut (F := Ideal) (iblk m c 4 t) (iblk m c 7 t) (View.ld (X0_0 m c t) (Rect.unit ![0, o] ![256, 128] i₁)) (View.ld (iblk m c 1 t) (Rect.unit ![0, o'] ![256, 64] i₂))
      (View.ld (X0_2 m c t) (Rect.unit ![0, o] ![1024, 128] i₃)) (View.ld (iblk m c 5 t) (Rect.unit ![0, o] ![256, 128] i₁))
      (View.ld (X0_3 m c t) (Rect.unit ![0, o] ![1024, 128] i₃)) (View.ld (iblk m c 6 t) (Rect.unit ![0, o] ![256, 128] i₁)) x = outM m c r col := by
  have ht := lt t
  have hx0 : (x 0).val < 256 := (x 0).isLt
  have hx1 : (x 1).val < 128 := (x 1).isLt
  have hcol := col.isLt
  have hh : col.val / 128 * 128 = o := by omega
  have hh' : col.val / 128 * 64 = o' := by omega
  have hd : r.val / 1024 = t.val / 4 := by omega
  refine headOut_eq _ _ _ _ _ _ _ _ x _ _ (sc_fin H _ _) (fun j => ?_) (fun j => ?_) (fun j => ?_) (fun j => ?_)
  · unfold sc kvAt krAt
    have hj : j.val < 1024 := j.isLt
    simp only [hj, dif_pos, hh, hh', hd]
    refine score_congr _ (fun k => ?_) (fun k => ?_) (fun k => ?_) (fun k => ?_)
    · exact Eq.trans (congrArg _ (by blk_ext)) ((ld_cols _ _ _ _).trans (in0 m c t _ _)).symm
    · exact Eq.trans (congrArg _ (by blk_ext)) ((ld_cols _ _ _ _).trans (in2 m c t _ _)).symm
    · exact Eq.trans (congrArg _ (by blk_ext)) ((ld_cols _ _ _ _).trans (in1 m c t _ _)).symm
    · exact (in4 m c t _ _).symm
  · unfold sc kvAt krAt
    have hj : ¬ (1024 + j.val < 1024) := by omega
    simp only [hj, dif_neg, not_false_eq_true, hh, hh', hd, Nat.add_sub_cancel_left]
    refine score_congr _ (fun k => ?_) (fun k => ?_) (fun k => ?_) (fun k => ?_)
    · exact Eq.trans (congrArg _ (by blk_ext)) ((ld_cols _ _ _ _).trans (in0 m c t _ _)).symm
    · exact Eq.trans (congrArg _ (by blk_ext)) ((ld_cols _ _ _ _).trans (in5 m c t _ _)).symm
    · exact Eq.trans (congrArg _ (by blk_ext)) ((ld_cols _ _ _ _).trans (in1 m c t _ _)).symm
    · exact (in7 m c t _ _).symm
  · unfold kvAt
    have hj : j.val < 1024 := j.isLt
    simp only [hj, dif_pos, hd]
    exact Eq.trans (congrArg _ (by blk_ext)) ((ld_cols _ _ _ _).trans (in3 m c t _ _)).symm
  · unfold kvAt
    have hj : ¬ (1024 + j.val < 1024) := by omega
    simp only [hj, dif_neg, not_false_eq_true, hd, Nat.add_sub_cancel_left]
    exact Eq.trans (congrArg _ (by blk_ext)) ((ld_cols _ _ _ _).trans (in6 m c t _ _)).symm

set_option maxRecDepth 1000000 in
/-- The output array after the run. -/
theorem final (H : Finite (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    (dats m 0 c).arrAt 8 cfg0.N = fun i : S2048x2048.Idx => outM m c (i 0) (i 1) := by
  refine (dats m 0 c).arrAt_eq_of_covers 8 _ (by decide +kernel) fun t hf y => ?_
  blk_simp
  rw [after0_8]
  unfold outsAt0
  frame_out
  canon_tiles x h
  all_goals
    refine Eq.trans (b := headOut _ _ _ _ _ _ _ _ x) rfl ?_
    refine head_block m c H t x _ _ (by omega) (by omega) _ _ ?_ ?_ _ _ _
    · rw [← h0]; exact row_emb t y
    · exact (col_emb t y).trans (by omega)

end Cert.MlaSample.Kern

end
-- ==== Proof.Dense.lean ====
/- An element of a matrix product, and how a projection kernel's run and its reference's are set side by side. -/
module

public import Idealize.ShloMosaic.PureOps.Ideal.Laws
public import Idealize.ShloMosaic.Lib.Pointwise
public import Idealize.ShloMosaic.Lib.Pipeline.ValueKit

@[expose] public section

set_option maxRecDepth 16384

noncomputable section

namespace Cert.Dense

open Idealize.ShloMosaic

/-- Element `(i, j)` of the product of two matrices. -/
def mm {A B C : ℕ} {φ ψ : FTy} (x : FVec Ideal ⟨2, ![A, B]⟩ φ) (w : FVec Ideal ⟨2, ![B, C]⟩ ψ) (i : Fin A) (j : Fin C) : EReal :=
  ∑ k : Fin B, x (ix2 i k) * w (ix2 k j)

/-- Two sums of products are equal when their factors are. -/
theorem sum_mul_congr {n : ℕ} {f f' g g' : Fin n → EReal} (h : ∀ k, f k = f' k) (h' : ∀ k, g k = g' k) : ∑ k, f k * g k = ∑ k, f' k * g' k :=
  Finset.sum_congr rfl fun k _ => congrArg₂ (· * ·) (h k) (h' k)

/-- Column `i` of a group of `n` columns starting at column `d`. -/
def shift {n m : ℕ} (d : ℕ) (h : d + n ≤ m) (i : Fin n) : Fin m := ⟨d + i.val, by omega⟩

/-- Two groups of rows, one group after the other. -/
def stack {A B N K : ℕ} {φ : FTy} (h : N ≤ A + B) (a : FVec Ideal ⟨2, ![A, K]⟩ φ) (b : FVec Ideal ⟨2, ![B, K]⟩ φ) (i : Fin N) (k : Fin K) : EReal :=
  if p : i.val < A then a (ix2 ⟨i.val, p⟩ k) else b (ix2 ⟨i.val - A, by omega⟩ k)

end Cert.Dense

end
-- ==== Proof.OutProj.lean ====
/- An output projection: one call for both groups of rows, the weights cast once into a scratch array. -/
module

public import proofs.«01_k».proof.Defs
public import proofs.«01_k».proof.Proof.Gen.Kernel2Ideal.Value
public import proofs.«01_k».proof.Proof.Gen.Reference2Ideal.Run
public import proofs.«01_k».proof.Proof.Dense
public import Idealize.ShloMosaic.Lib.Claim

@[expose] public section

set_option maxRecDepth 16384

noncomputable section

namespace Cert.OutProj

open Idealize.ShloMosaic Idealize.ShloMosaic.TcCoe Idealize.SL.Sem Cert.Dense
open Idealize.ShloMosaic.Pipeline (Dat)

/-- The two groups' rows, one group after the other. -/
def rows (a : FVec Ideal ⟨2, ![4096, 2048]⟩ .bf16) (b : FVec Ideal ⟨2, ![2048, 2048]⟩ .bf16) : FVec Ideal ⟨2, ![6144, 2048]⟩ .bf16 :=
  fun i => stack (le_refl 6144) a b (i 0) (i 1)

/-- A row of the first group. -/
theorem rows_first (a : FVec Ideal ⟨2, ![4096, 2048]⟩ .bf16) (b : FVec Ideal ⟨2, ![2048, 2048]⟩ .bf16) (i : Fin 6144) (k : Fin 2048) (p : i.val < 4096) :
    rows a b (ix2 i k) = a (ix2 (⟨i.val, p⟩ : Fin 4096) k) := dif_pos p

/-- A row of the second group. -/
theorem rows_second (a : FVec Ideal ⟨2, ![4096, 2048]⟩ .bf16) (b : FVec Ideal ⟨2, ![2048, 2048]⟩ .bf16) (i : Fin 6144) (k : Fin 2048) (p : ¬ i.val < 4096) :
    rows a b (ix2 i k) = b (ix2 (⟨i.val - 4096, by omega⟩ : Fin 2048) k) := dif_neg p

/-- The weights as they are. -/
def weights (w : FVec Ideal ⟨2, ![2048, 2048]⟩ .f32) : FVec Ideal ⟨2, ![2048, 2048]⟩ .bf16 := fun i => w (ix2 (i 0 : Fin 2048) (i 1 : Fin 2048))

section
open Cert.Reference2Ideal Cert.Reference2Ideal.Gen

/-- The reference's product, element by element. -/
theorem ref_eq (a : FVec Ideal S4096x2048 .bf16) (b : FVec Ideal S2048x2048 .bf16) (w : FVec Ideal S2048x2048 .f32) :
    truncf .bf16 (Host.dotGeneral dot_S6144x2048_S2048x2048_S6144x2048_1_0_0_1_n_n none (extf .f32 (concatenate S6144x2048 0 [⟨S4096x2048, a⟩, ⟨S2048x2048, b⟩] concatenates_S4096x2048_S2048x2048_S6144x2048_d0) bitsLt_bf16_f32) w) bitsLt_bf16_f32
      = fun i : S6144x2048.Idx => mm (rows a b) (weights w) (i 0) (i 1) := by
  funext i
  by_cases h : (i 0 : Fin 6144).val < 4096
  · pointwise [mm, weights]
    rfl
  · pointwise [mm, weights]
    rfl

end

section
open Cert.Kernel2Ideal Cert.Kernel2Ideal.Gen
variable (m : (ℓ : Loc nD τ sig) → Buf (Elt Ideal) ℓ) (c : Dev nD)

/-- Which block of each array a grid point works on. -/
theorem idx : ∀ t : Fin cfg0.N, (win0_0.index t 0 = min t.val 7 ∧ win0_0.index t 1 = 0) ∧ (win0_1.index t 0 = max t.val 8 - 8 ∧ win0_1.index t 1 = 0)
    ∧ (win0_2.index t 0 = 0 ∧ win0_2.index t 1 = 0) ∧ (win0_3.index t 0 = t.val ∧ win0_3.index t 1 = 0) :=
  (by decide +kernel : ∀ t : Fin grid0.N, _)

/-- The weights in this memory. -/
def W : FVec Ideal S2048x2048 .bf16 := weights (m ((c.tc : Thread nD τ).loc main_arg2))

/-- The first grid point leaves the weights in the scratch array. -/
theorem scratch_first (t : Fin cfg0.N) (h : t.val % 12 = 0) (h1 : t.val < 8) (h2 : ¬8 ≤ t.val) : (outsAt0 m c t.val t.isLt).2 = W m c := by
  rw [outsAt0_A m c t h h1 h2]
  dsimp only
  unfold sout0_A_0
  funext y
  frame_out
  pointwise [k0_pay1, W, weights]
  blk_point [iblk, V, idx t]

/-- So does every later one, which leaves the array as it finds it. -/
theorem scratch : ∀ (n : ℕ) (hn : n < cfg0.N), (outsAt0 m c n hn).2 = W m c
  | 0, hn => scratch_first m c ⟨0, hn⟩ rfl (show 0 < 8 by omega) (show ¬ 8 ≤ 0 by omega)
  | n + 1, hn => by
    have h : ¬ (n + 1) % 12 = 0 := by have : n + 1 < 12 := hn; omega
    by_cases h1 : n + 1 < 8
    · have e := outsAt0_B m c ⟨n + 1, hn⟩ h h1 (show ¬ 8 ≤ n + 1 by omega)
      exact (congrArg Prod.snd e).trans (scratch n (Nat.lt_of_succ_lt hn))
    · have e := outsAt0_C m c ⟨n + 1, hn⟩ h h1 (show 8 ≤ n + 1 by omega)
      exact (congrArg Prod.snd e).trans (scratch n (Nat.lt_of_succ_lt hn))

/-- The kernel's product after the run. -/
theorem final : (dats m 0 c).arrAt 3 cfg0.N = fun i : S6144x2048.Idx =>
    mm (rows (m ((c.tc : Thread nD τ).loc main_arg0)) (m ((c.tc : Thread nD τ).loc main_arg1))) (W m c) (i 0) (i 1) := by
  refine (dats m 0 c).arrAt_eq_of_covers 3 _ (by decide +kernel) fun t hf y => ?_
  have e : ((win0_3.rect t).emb y 0 : ℕ) = win0_3.index t 0 * 512 + (y 0).val := win0_3.rect_emb_val t y 0
  have e' : win0_3.index t 0 = t.val := (idx t).2.2.2.1
  have hy : (y 0).val < 512 := (y 0).isLt
  have ht12 : t.val < 12 := t.isLt
  blk_simp
  rw [after0_3]
  by_cases h : t.val % 12 = 0
  · have ht : t.val = 0 := by have : t.val < 12 := t.isLt; omega
    rw [outsAt0_A m c t h (by omega) (by omega)]
    dsimp only
    frame_out
    pointwise [k0_pay1, k0_pay2, k0_pay3, mm, W, weights]
    refine sum_mul_congr (fun k => ?_) fun k => ?_
    · refine Eq.trans ?_ (rows_first _ _ _ _ (lt_of_eq_of_lt e (by omega))).symm
      blk_point [iblk, V, idx t]
      show min t.val 7 * 512 + (y 0).val = t.val * 512 + (y 0).val
      omega
    · blk_point [iblk, V, idx t]
  · by_cases h1 : t.val < 8
    · rw [outsAt0_B m c t h h1 (by omega), scratch]
      dsimp only
      generalize hW : W m c = w
      frame_out
      pointwise [k0_pay2, k0_pay3, mm]
      refine sum_mul_congr (fun k => ?_) fun k => ?_
      · refine Eq.trans ?_ (rows_first _ _ _ _ (lt_of_eq_of_lt e (by omega))).symm
        blk_point [iblk, V, idx t]
        show min t.val 7 * 512 + (y 0).val = t.val * 512 + (y 0).val
        omega
      · refine (congrFun ((Memref.isWhole_whole cc0_scratch0).read_unread (Val := Elt Ideal) _) _).trans ?_
        blk_point [iblk, V, idx t]
    · rw [outsAt0_C m c t h h1 (by omega), scratch]
      dsimp only
      generalize hW : W m c = w
      frame_out
      pointwise [k0_pay2, k0_pay3, mm]
      refine sum_mul_congr (fun k => ?_) fun k => ?_
      · refine Eq.trans ?_ (rows_second _ _ _ _ (not_lt_of_ge (le_of_le_of_eq (by omega) e.symm))).symm
        blk_point [iblk, V, idx t]
        show (max t.val 8 - 8) * 512 + (y 0).val = t.val * 512 + (y 0).val - 4096
        omega
      · refine (congrFun ((Memref.isWhole_whole cc0_scratch0).read_unread (Val := Elt Ideal) _) _).trans ?_
        blk_point [iblk, V, idx t]

end

/-- The kernel's array is the reference's. -/
theorem equal : Cert.algebraic_Kernel2Ideal_Reference2Ideal := by
  pair_intro
  · run_from Cert.Kernel2Ideal.Value.run_blocks m g
  · run_from Cert.Reference2Ideal.Value.run m' g'
    exact (ref_eq _ _ _).trans (final m c).symm

end Cert.OutProj

end
-- ==== Proof.PeerLayer.lean ====
/- What the four layers' query projections of the expert layer share: what their grid points store in the scratch array and
   in the product, and the reference's product. Their programs differ
   in the layer whose weights the second block is. -/
module

public import proofs.«01_k».proof.Proof.Gen.Kernel3Ideal.Value
public import proofs.«01_k».proof.Proof.Gen.Reference3Ideal.Run
public import proofs.«01_k».proof.Proof.Dense

@[expose] public section

set_option maxRecDepth 16384

noncomputable section

namespace Cert.PeerLayer

open Idealize.ShloMosaic Cert.Dense

/-- The weights of layer `l`. -/
def layerW (l : Fin 4) (w : FVec Ideal ⟨3, ![4, 2048, 2048]⟩ .f32) : FVec Ideal ⟨2, ![2048, 2048]⟩ .bf16 := fun i => w (ix3 l (i 0 : Fin 2048) (i 1 : Fin 2048))

section
open Cert.Kernel3Ideal Cert.Kernel3Ideal.Gen

/-- What the first grid point stores in the scratch array. -/
theorem weights_eq (l : Fin 4) (w : FVec Ideal S4x2048x2048 .f32) (b : Vec Ideal S1x2048x2048 .f32)
    (hb : ∀ r k : Fin 2048, b (ix3 (0 : Fin 1) r k) = w (ix3 l r k)) : k0_pay1 (F := Ideal) b = layerW l w := by
  funext y
  refine Eq.trans ?_ (hb (y 0) (y 1))
  pointwise [k0_pay1]

/-- What every grid point stores in its rows of the product. -/
theorem product_eq (l : Fin 4) (w : FVec Ideal S4x2048x2048 .f32) (x : FVec Ideal S6144x2048 .bf16) (a : Vec Ideal S512x2048 .bf16) (s : Vec Ideal S2048x2048 .bf16)
    (y : S512x2048.Idx) (R : Fin 6144) (C : Fin 2048) (hs : s = layerW l w) (hC : C = y 1) (ha : ∀ k : Fin 2048, a (ix2 (y 0 : Fin 512) k) = x (ix2 R k)) :
    k0_pay2 (F := Ideal) a s y = mm x (layerW l w) R C := by
  subst hs hC
  refine Eq.trans ?_ (Finset.sum_congr rfl fun k _ => congrArg (· * _) (ha k))
  pointwise [k0_pay2]

end

section
open Cert.Reference3Ideal Cert.Reference3Ideal.Gen

/-- The reference's product, element by element. -/
theorem ref_eq (l : ℕ) (hl : l < 4) (h : S4x2048x2048.Slices ![l, 0, 0] S1x2048x2048) (x : FVec Ideal S6144x2048 .bf16) (w : FVec Ideal S4x2048x2048 .f32) :
    truncf .bf16 (Host.dotGeneral dot_S6144x2048_S2048x2048_S6144x2048_1_0_0_1_n_n none (extf .f32 x bitsLt_bf16_f32) (shapeCast _ (extractStridedSlice S1x2048x2048 ![l, 0, 0] w h) shapeCasts_S1x2048x2048_S2048x2048)) bitsLt_bf16_f32
      = fun i : S6144x2048.Idx => mm x (layerW ⟨l, hl⟩ w) (i 0) (i 1) := by
  funext i
  pointwise [mm, layerW]

end

end Cert.PeerLayer

end
-- ==== Proof.PeerQuery.lean ====
/- The query projection of the last layer's experts. -/
module

public import proofs.«01_k».proof.Defs
public import proofs.«01_k».proof.Proof.Gen.Kernel3Ideal.Value
public import proofs.«01_k».proof.Proof.Gen.Reference3Ideal.Run
public import proofs.«01_k».proof.Proof.PeerLayer
public import Idealize.ShloMosaic.Lib.Claim

@[expose] public section

set_option maxRecDepth 16384

noncomputable section

namespace Cert.PeerQuery

open Idealize.ShloMosaic Idealize.ShloMosaic.TcCoe Idealize.SL.Sem Cert.Dense Cert.PeerLayer
open Idealize.ShloMosaic.Pipeline (Dat)

section
open Cert.Kernel3Ideal Cert.Kernel3Ideal.Gen
variable (m : (ℓ : Loc nD τ sig) → Buf (Elt Ideal) ℓ) (c : Dev nD)

/-- Which block of each array a grid point works on. -/
theorem idx : ∀ t : Fin cfg0.N, (win0_0.index t 0 = t.val ∧ win0_0.index t 1 = 0) ∧ (win0_1.index t 0 = 3 ∧ win0_1.index t 1 = 0 ∧ win0_1.index t 2 = 0)
    ∧ (win0_2.index t 0 = t.val ∧ win0_2.index t 1 = 0) :=
  (by decide +kernel : ∀ t : Fin grid0.N, _)

theorem rows_block (t : Fin cfg0.N) (r : Fin 512) (k : Fin 2048) (R : Fin 6144) (hR : R.val = t.val * 512 + r.val) :
    iblk m c 0 t (ix2 r k) = m ((c.tc : Thread nD τ).loc main_arg0) (ix2 R k) := by
  blk_ext! [iblk, V, idx t]

theorem weights_block (t : Fin cfg0.N) (r k : Fin 2048) :
    iblk m c 1 t (ix3 (0 : Fin 1) r k) = m ((c.tc : Thread nD τ).loc main_arg1) (ix3 (3 : Fin 4) r k) := by
  blk_ext! [iblk, V, idx t]

/-- The weights in this memory. -/
abbrev W : FVec Ideal S2048x2048 .bf16 := layerW 3 (m ((c.tc : Thread nD τ).loc main_arg1))

/-- The first grid point leaves them in the scratch array. -/
theorem scratch_first (t : Fin cfg0.N) (h : t.val % 12 = 0) : (outsAt0 m c t.val t.isLt).2 = W m c := by
  rw [outsAt0_A m c t h]
  dsimp only
  unfold sout0_A_0
  funext y
  frame_out
  exact congrFun (weights_eq 3 _ _ (weights_block m c t)) y

/-- Every later one leaves the array as it finds it. -/
theorem scratch : ∀ (n : ℕ) (hn : n < cfg0.N), (outsAt0 m c n hn).2 = W m c
  | 0, hn => scratch_first m c ⟨0, hn⟩ rfl
  | n + 1, hn => by
    have h : ¬ (n + 1) % 12 = 0 := by have : n + 1 < 12 := hn; omega
    exact (congrArg Prod.snd (outsAt0_B m c ⟨n + 1, hn⟩ h)).trans (scratch n (Nat.lt_of_succ_lt hn))

/-- The kernel's product after the run. -/
theorem final : (dats m 0 c).arrAt 2 cfg0.N = fun i : S6144x2048.Idx =>
    mm (φ := .bf16) (m ((c.tc : Thread nD τ).loc main_arg0)) (W m c) (i 0) (i 1) := by
  refine (dats m 0 c).arrAt_eq_of_covers 2 _ (by decide +kernel) fun t hf y => ?_
  have e : ((win0_2.rect t).emb y 0 : ℕ) = win0_2.index t 0 * 512 + (y 0).val := win0_2.rect_emb_val t y 0
  have e' : ((win0_2.rect t).emb y 1 : ℕ) = win0_2.index t 1 * 2048 + (y 1).val := win0_2.rect_emb_val t y 1
  rw [(idx t).2.2.1] at e
  rw [(idx t).2.2.2] at e'
  have hc : (win0_2.rect t).emb y 1 = (y 1 : Fin 2048) := Fin.ext (by omega)
  blk_simp
  rw [after0_2]
  by_cases h : t.val % 12 = 0
  · rw [outsAt0_A m c t h]
    dsimp only
    frame_out
    exact product_eq 3 _ _ _ _ _ _ _ (weights_eq 3 _ _ (weights_block m c t)) hc fun k => rows_block m c t _ k _ e
  · rw [outsAt0_B m c t h, scratch]
    dsimp only
    generalize hW : W m c = w
    frame_out
    subst hW
    exact product_eq 3 _ _ _ _ _ _ _ ((Memref.isWhole_whole cc0_scratch0).read_unread (Val := Elt Ideal) _) hc fun k => rows_block m c t _ k _ e

end

/-- The kernel's array is the reference's. -/
theorem equal : Cert.algebraic_Kernel3Ideal_Reference3Ideal := by
  pair_intro
  · run_from Cert.Kernel3Ideal.Value.run_blocks m g
  · run_from Cert.Reference3Ideal.Value.run m' g'
    exact (ref_eq 3 (by decide) _ _ _).trans (final m c).symm

end Cert.PeerQuery

end
-- ==== Proof.ConvIn.lean ====
/- The convolution mixer's input projection: each block of the product is the reference's. -/
module

public import proofs.«01_k».proof.Defs
public import proofs.«01_k».proof.Proof.Gen.Kernel4Ideal.Value
public import proofs.«01_k».proof.Proof.Gen.Reference4Ideal.Run
public import proofs.«01_k».proof.Proof.Dense
public import Idealize.ShloMosaic.Lib.Claim

@[expose] public section

set_option maxRecDepth 16384

noncomputable section

namespace Cert.ConvIn

open Idealize.ShloMosaic Idealize.ShloMosaic.TcCoe Idealize.SL.Sem Cert.Dense
open Idealize.ShloMosaic.Pipeline (Dat)

section
open Cert.Reference4Ideal Cert.Reference4Ideal.Gen

/-- The reference's product, element by element. -/
theorem ref_eq (x : FVec Ideal S6144x2048 .bf16) (w : FVec Ideal S2048x6144 .f32) :
    truncf .bf16 (Host.dotGeneral dot_S6144x2048_S2048x6144_S6144x6144_1_0_0_1_n_n none (extf .f32 x bitsLt_bf16_f32) w) bitsLt_bf16_f32
      = fun i : S6144x6144.Idx => mm x w (i 0) (i 1) := by
  funext i
  pointwise [mm]

end

section
open Cert.Kernel4Ideal Cert.Kernel4Ideal.Gen
variable (m : (ℓ : Loc nD τ sig) → Buf (Elt Ideal) ℓ) (c : Dev nD)

/-- Which block of each array a grid point works on: 2048 rows, 512 columns. -/
theorem idx : ∀ t : Fin cfg0.N, (win0_0.index t 0 = t.val / 12 ∧ win0_0.index t 1 = 0) ∧ (win0_1.index t 0 = 0 ∧ win0_1.index t 1 = t.val % 12)
    ∧ (win0_2.index t 0 = t.val / 12 ∧ win0_2.index t 1 = t.val % 12) :=
  (by decide +kernel : ∀ t : Fin grid0.N, _)

/-- The kernel's product after the run. -/
theorem final : (dats m 0 c).arrAt 2 cfg0.N = fun i : S6144x6144.Idx =>
    mm (φ := .bf16) (ψ := .f32) (m ((c.tc : Thread nD τ).loc main_arg0)) (m ((c.tc : Thread nD τ).loc main_arg1)) (i 0) (i 1) := by
  refine (dats m 0 c).arrAt_eq_of_covers 2 _ (by decide +kernel) fun t hf y => ?_
  blk_simp
  rw [after0_2]
  frame_out
  pointwise [k0_pay1, mm]
  blk_point [iblk, V, idx t]

end

/-- The kernel's array is the reference's. -/
theorem equal : Cert.algebraic_Kernel4Ideal_Reference4Ideal := by
  pair_intro
  · run_from Cert.Kernel4Ideal.Value.run_blocks m g
  · run_from Cert.Reference4Ideal.Value.run m' g'
    exact (ref_eq _ _).trans (final m c).symm

end Cert.ConvIn

end
-- ==== Proof.GqaKv.lean ====
/- The grouped attention's keys and values: the last third of the joint weights' columns, cast once into a scratch array. -/
module

public import proofs.«01_k».proof.Defs
public import proofs.«01_k».proof.Proof.Gen.Kernel5Ideal.Value
public import proofs.«01_k».proof.Proof.Gen.Reference5Ideal.Run
public import proofs.«01_k».proof.Proof.Dense
public import Idealize.ShloMosaic.Lib.Claim

@[expose] public section

set_option maxRecDepth 16384

noncomputable section

namespace Cert.GqaKv

open Idealize.ShloMosaic Idealize.ShloMosaic.TcCoe Idealize.SL.Sem Cert.Dense
open Idealize.ShloMosaic.Pipeline (Dat)

/-- The weights' last 1024 columns. -/
def lastCols (w : FVec Ideal ⟨2, ![2048, 3072]⟩ .f32) : FVec Ideal ⟨2, ![2048, 1024]⟩ .bf16 :=
  fun i => w (ix2 (i 0 : Fin 2048) (shift 2048 (le_refl 3072) (i 1 : Fin 1024)))

section
open Cert.Reference5Ideal Cert.Reference5Ideal.Gen

/-- The reference's product, element by element. -/
theorem ref_eq (x : FVec Ideal S6144x2048 .bf16) (w : FVec Ideal S2048x3072 .f32) :
    extractStridedSlice S6144x1024 ![0, 2048] (Host.dotGeneral dot_S6144x2048_S2048x3072_S6144x3072_1_0_0_1_n_n none (extf .f32 x bitsLt_bf16_f32) w) slices_S6144x3072_S6144x1024_0_2048
      = fun i : S6144x1024.Idx => mm x (lastCols w) (i 0) (i 1) := by
  funext i
  pointwise [mm, lastCols, shift]

end

section
open Cert.Kernel5Ideal Cert.Kernel5Ideal.Gen
variable (m : (ℓ : Loc nD τ sig) → Buf (Elt Ideal) ℓ) (c : Dev nD)

/-- Which block of each array a grid point works on. -/
theorem idx : ∀ t : Fin cfg0.N, (win0_0.index t 0 = t.val ∧ win0_0.index t 1 = 0) ∧ (win0_1.index t 0 = 0 ∧ win0_1.index t 1 = 2)
    ∧ (win0_2.index t 0 = t.val ∧ win0_2.index t 1 = 0) :=
  (by decide +kernel : ∀ t : Fin grid0.N, _)

/-- The weights in this memory. -/
def W : FVec Ideal S2048x1024 .bf16 := lastCols (m ((c.tc : Thread nD τ).loc main_arg1))

/-- The first grid point leaves the weights in the scratch array. -/
theorem scratch_first (t : Fin cfg0.N) (h : t.val % 12 = 0) : (outsAt0 m c t.val t.isLt).2 = W m c := by
  rw [outsAt0_A m c t h]
  dsimp only
  unfold sout0_A_0
  funext y
  frame_out
  pointwise [k0_pay1, W, lastCols, shift]
  blk_point [iblk, V, idx t]

/-- So does every later one, which leaves the array as it finds it. -/
theorem scratch : ∀ (n : ℕ) (hn : n < cfg0.N), (outsAt0 m c n hn).2 = W m c
  | 0, hn => scratch_first m c ⟨0, hn⟩ rfl
  | n + 1, hn => by
    have h : ¬ (n + 1) % 12 = 0 := by have : n + 1 < 12 := hn; omega
    exact (congrArg Prod.snd (outsAt0_B m c ⟨n + 1, hn⟩ h)).trans (scratch n (Nat.lt_of_succ_lt hn))

/-- The kernel's product after the run. -/
theorem final : (dats m 0 c).arrAt 2 cfg0.N = fun i : S6144x1024.Idx =>
    mm (φ := .bf16) (m ((c.tc : Thread nD τ).loc main_arg0)) (W m c) (i 0) (i 1) := by
  refine (dats m 0 c).arrAt_eq_of_covers 2 _ (by decide +kernel) fun t hf y => ?_
  blk_simp
  rw [after0_2]
  by_cases h : t.val % 12 = 0
  · rw [outsAt0_A m c t h]
    dsimp only
    frame_out
    pointwise [k0_pay1, k0_pay2, mm, W, lastCols, shift]
    blk_point [iblk, V, idx t]
  · rw [outsAt0_B m c t h, scratch]
    dsimp only
    generalize hW : W m c = w
    frame_out
    pointwise [k0_pay2, mm]
    subst hW
    refine sum_mul_congr (fun k => ?_) fun k => ?_
    · blk_point [iblk, V, idx t]
    · refine (congrFun ((Memref.isWhole_whole cc0_scratch0).read_unread (Val := Elt Ideal) _) _).trans ?_
      pointwise [W, lastCols, shift]
      blk_point [iblk, V, idx t]

end

/-- The kernel's array is the reference's. -/
theorem equal : Cert.algebraic_Kernel5Ideal_Reference5Ideal := by
  pair_intro
  · run_from Cert.Kernel5Ideal.Value.run_blocks m g
  · run_from Cert.Reference5Ideal.Value.run m' g'
    exact (ref_eq _ _).trans (final m c).symm

end Cert.GqaKv

end
-- ==== Proof.GqaQuery.lean ====
/- The grouped attention's queries: the joint weights' first columns, cast once into a scratch array. -/
module

public import proofs.«01_k».proof.Defs
public import proofs.«01_k».proof.Proof.Gen.Kernel6Ideal.Value
public import proofs.«01_k».proof.Proof.Gen.Reference6Ideal.Run
public import proofs.«01_k».proof.Proof.Dense
public import Idealize.ShloMosaic.Lib.Claim

@[expose] public section

set_option maxRecDepth 16384

noncomputable section

namespace Cert.GqaQuery

open Idealize.ShloMosaic Idealize.ShloMosaic.TcCoe Idealize.SL.Sem Cert.Dense
open Idealize.ShloMosaic.Pipeline (Dat)

/-- The weights' first 2048 columns. -/
def firstCols (w : FVec Ideal ⟨2, ![2048, 3072]⟩ .f32) : FVec Ideal ⟨2, ![2048, 2048]⟩ .bf16 :=
  fun i => w (ix2 (i 0 : Fin 2048) (shift 0 (by omega : 0 + 2048 ≤ 3072) (i 1 : Fin 2048)))

section
open Cert.Reference6Ideal Cert.Reference6Ideal.Gen

/-- The reference's product, element by element. -/
theorem ref_eq (x : FVec Ideal S6144x2048 .bf16) (w : FVec Ideal S2048x3072 .f32) :
    truncf .bf16 (extractStridedSlice S6144x2048 ![0, 0] (Host.dotGeneral dot_S6144x2048_S2048x3072_S6144x3072_1_0_0_1_n_n none (extf .f32 x bitsLt_bf16_f32) w) slices_S6144x3072_S6144x2048_0_0) bitsLt_bf16_f32
      = fun i : S6144x2048.Idx => mm x (firstCols w) (i 0) (i 1) := by
  funext i
  pointwise [mm, firstCols, shift]

end

section
open Cert.Kernel6Ideal Cert.Kernel6Ideal.Gen
variable (m : (ℓ : Loc nD τ sig) → Buf (Elt Ideal) ℓ) (c : Dev nD)

/-- Which block of each array a grid point works on. -/
theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, _)

/-- The weights in this memory. -/
def W : FVec Ideal S2048x2048 .bf16 := firstCols (m ((c.tc : Thread nD τ).loc main_arg1))

/-- The weights' columns are read whole: the block ends inside the array. -/
theorem uncut : ∀ t : Fin cfg0.N, ∀ a, (cfg0.win 1).clip (cfg0.grid.coords t) a = none :=
  (by decide +kernel : ∀ t : Fin grid0.N, ∀ a, (cfg0.win 1).clip (cfg0.grid.coords t) a = none)

/-- So the block of weights a grid point sees is the weights. -/
theorem block (t : Fin cfg0.N) (y : S2048x2048.Idx) : X0_1 m c t y = W m c y := by
  have hm : (cfg0.win 1).moved (cfg0.grid.coords t) y = true :=
    ((cfg0.win 1).moved_iff _ y).mpr fun a => by have := (y a).isLt; unfold Pipeline.Window.xsize; rw [uncut t a]; exact this
  unfold X0_1 Pipeline.Window.fill
  rw [dif_pos hm]
  pointwise [W, firstCols, shift]
  blk_ext! [iblk, V, idx t]

/-- The first grid point leaves the weights in the scratch array. -/
theorem scratch_first (t : Fin cfg0.N) (h : t.val % 12 = 0) : (outsAt0 m c t.val t.isLt).2 = W m c := by
  rw [outsAt0_A m c t h]
  dsimp only
  unfold sout0_A_0
  funext y
  frame_out
  pointwise [k0_pay1]
  exact block m c t y

/-- So does every later one, which leaves the array as it finds it. -/
theorem scratch : ∀ (n : ℕ) (hn : n < cfg0.N), (outsAt0 m c n hn).2 = W m c
  | 0, hn => scratch_first m c ⟨0, hn⟩ rfl
  | n + 1, hn => by
    have h : ¬ (n + 1) % 12 = 0 := by have : n + 1 < 12 := hn; omega
    exact (congrArg Prod.snd (outsAt0_B m c ⟨n + 1, hn⟩ h)).trans (scratch n (Nat.lt_of_succ_lt hn))

/-- The kernel's product after the run. -/
theorem final : (dats m 0 c).arrAt 2 cfg0.N = fun i : S6144x2048.Idx =>
    mm (φ := .bf16) (m ((c.tc : Thread nD τ).loc main_arg0)) (W m c) (i 0) (i 1) := by
  refine (dats m 0 c).arrAt_eq_of_covers 2 _ (by decide +kernel) fun t hf y => ?_
  blk_simp
  rw [after0_2]
  by_cases h : t.val % 12 = 0
  · rw [outsAt0_A m c t h]
    dsimp only
    frame_out
    pointwise [k0_pay1, k0_pay2, mm]
    refine sum_mul_congr (fun k => ?_) fun k => ?_
    · blk_point [iblk, V, idx t]
    · refine (block m c t _).trans ?_
      blk_point [idx t]
  · rw [outsAt0_B m c t h, scratch]
    dsimp only
    generalize hW : W m c = w
    frame_out
    pointwise [k0_pay2, mm]
    subst hW
    refine sum_mul_congr (fun k => ?_) fun k => ?_
    · blk_point [iblk, V, idx t]
    · refine (congrFun ((Memref.isWhole_whole cc0_scratch0).read_unread (Val := Elt Ideal) _) _).trans ?_
      pointwise [W, firstCols, shift]
      blk_point [iblk, V, idx t]

end

/-- The kernel's array is the reference's. -/
theorem equal : Cert.algebraic_Kernel6Ideal_Reference6Ideal := by
  pair_intro
  · run_from Cert.Kernel6Ideal.Value.run_blocks m g
  · run_from Cert.Reference6Ideal.Value.run m' g'
    exact (ref_eq _ _).trans (final m c).symm

end Cert.GqaQuery

end
-- ==== Proof.Norm.lean ====
/- Layer and root mean square normalisation of one row, as both programs read. -/
module

public import proofs.«01_k».proof.Proof.Dense

@[expose] public section

noncomputable section

namespace Cert.Norm

open Idealize.ShloMosaic

/-- Element `j` of a row scaled to root mean square one, `c` its length and `e` what keeps the root from zero. -/
def rmsNorm {n : ℕ} (c e : EReal) (y : Fin n → EReal) (g : EReal) (j : Fin n) : EReal :=
  y j * Ideal.rsqrt (Ideal.div (∑ k, y k * y k) c + e) * g

/-- Element `j` of a row shifted to mean zero and scaled to variance one. -/
def layerNorm {n : ℕ} (c e : EReal) (y : Fin n → EReal) (g b : EReal) (j : Fin n) : EReal :=
  (y j - Ideal.div (∑ k, y k) c) *
    Ideal.rsqrt (Ideal.div (∑ k, (y k - Ideal.div (∑ k, y k) c) * (y k - Ideal.div (∑ k, y k) c)) c + e) * g + b

/-- Equal rows have equal normalisations. -/
theorem layerNorm_congr {n : ℕ} {c e : EReal} {y y' : Fin n → EReal} {g g' b b' : EReal} {j j' : Fin n}
    (hy : ∀ k, y k = y' k) (hg : g = g') (hb : b = b') (hj : j = j') : layerNorm c e y g b j = layerNorm c e y' g' b' j' := by
  rw [funext hy, hg, hb, hj]

/-- Likewise for the root mean square normalisation. -/
theorem rmsNorm_congr {n : ℕ} {c e : EReal} {y y' : Fin n → EReal} {g g' : EReal} {j j' : Fin n}
    (hy : ∀ k, y k = y' k) (hg : g = g') (hj : j = j') : rmsNorm c e y g j = rmsNorm c e y' g' j' := by
  rw [funext hy, hg, hj]

/-- The row of the joint array a prompt row stands at. -/
def promptRow (i : Fin 4096) : Fin 6144 := ⟨i.val, by omega⟩

/-- The row of the joint array a sample row stands at. -/
def sampleRow (i : Fin 2048) : Fin 6144 := ⟨4096 + i.val, by omega⟩

/-- The conditioning row of a prompt row. -/
def promptGroup (i : Fin 4096) : Fin 8 := 0

/-- The conditioning row of a sample row: one for each sequence. -/
def sampleGroup (i : Fin 2048) : Fin 8 := ⟨1 + i.val / 1024, by omega⟩

/-- The residual sum of one element: the layer's input, scaled, and the gated channel mixer. -/
def mix (x d s : EReal) : EReal := Ideal.ofBits FTy.f32 0x3FD744FD#32 * x + s * d

/-- The residual sum of one row: the layer's input, scaled, and the gated channel mixer. -/
def mixed (x d : FVec Ideal ⟨2, ![6144, 2048]⟩ .f32) (s : FVec Ideal ⟨4, ![8, 6, 1, 2048]⟩ .f32) (r : Fin 6144) (q : Fin 8) (j : Fin 2048) : EReal :=
  mix (x (ix2 r j)) (d (ix2 r j)) (s (ix4 q (5 : Fin 6) (0 : Fin 1) j))

/-- Its normalisation, with the layer's scale and shift. -/
def postNorm {n : ℕ} (row : Fin n → Fin 6144) (group : Fin n → Fin 8) (l : Fin 4) (x d : FVec Ideal ⟨2, ![6144, 2048]⟩ .f32)
    (s : FVec Ideal ⟨4, ![8, 6, 1, 2048]⟩ .f32) (g b : FVec Ideal ⟨2, ![4, 2048]⟩ .f32) (i : Fin n) (j : Fin 2048) : EReal :=
  layerNorm (Ideal.ofBits FTy.f32 0x45000000#32) (Ideal.ofBits FTy.f32 0x3727C5AC#32) (mixed x d s (row i) (group i)) (g (ix2 l j)) (b (ix2 l j)) j

end Cert.Norm

end
-- ==== Proof.MlaDown.lean ====
/- The latent attention's down projection: the joint query, the joint keys and values, and the rotary keys. -/
module

public import proofs.«01_k».proof.Defs
public import proofs.«01_k».proof.Proof.Gen.Kernel7Ideal.Value
public import proofs.«01_k».proof.Proof.Gen.Reference7Ideal.Run
public import proofs.«01_k».proof.Proof.Dense
public import proofs.«01_k».proof.Proof.Norm
public import Idealize.ShloMosaic.Lib.Claim

@[expose] public section

set_option maxRecDepth 16384

noncomputable section

namespace Cert.MlaDown

open Idealize.ShloMosaic Idealize.ShloMosaic.TcCoe Idealize.SL.Sem Cert.Dense Cert.Norm
open Idealize.ShloMosaic.Pipeline (Dat)

/-- The joint query: the normalised product with the query's down projection. -/
def joint (u : FVec Ideal ⟨2, ![6144, 2048]⟩ .bf16) (w : FVec Ideal ⟨2, ![2048, 512]⟩ .f32) (g : FVec Ideal ⟨1, ![512]⟩ .f32) (i : Fin 6144) (j : Fin 512) : EReal :=
  rmsNorm (Ideal.ofBits FTy.f32 0x44000000#32) (Ideal.ofBits FTy.f32 0x358637BD#32) (fun k => mm u w i k) (g (ix1 j)) j

/-- The columns of the joint keys and values in their down projection. -/
def latentCols (w : FVec Ideal ⟨2, ![2048, 576]⟩ .f32) : FVec Ideal ⟨2, ![2048, 512]⟩ .f32 :=
  fun i => w (ix2 (i 0 : Fin 2048) (shift 0 (by decide : 0 + 512 ≤ 576) (i 1 : Fin 512)))

/-- The columns of the rotary keys. -/
def ropeCols (w : FVec Ideal ⟨2, ![2048, 576]⟩ .f32) : FVec Ideal ⟨2, ![2048, 64]⟩ .f32 :=
  fun i => w (ix2 (i 0 : Fin 2048) (shift 512 (by decide : 512 + 64 ≤ 576) (i 1 : Fin 64)))

section
open Cert.Reference7Ideal Cert.Reference7Ideal.Gen

/-- The reference's three arrays, element by element. -/
theorem ref_eq (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = (fun i : S6144x512.Idx =>
        joint (m ((c.tc : Thread nD τ).loc main_arg0)) (m ((c.tc : Thread nD τ).loc main_arg1)) (m ((c.tc : Thread nD τ).loc main_arg2)) (i 0) (i 1))
      ∧ r.2.mem ((c.tc : Thread nD τ).loc main_v31) = (fun i : S6144x512.Idx =>
        joint (m ((c.tc : Thread nD τ).loc main_arg0)) (latentCols (m ((c.tc : Thread nD τ).loc main_arg3))) (m ((c.tc : Thread nD τ).loc main_arg4)) (i 0) (i 1))
      ∧ r.2.mem ((c.tc : Thread nD τ).loc main_v32) = (fun i : S6144x64.Idx =>
        mm (φ := .bf16) (m ((c.tc : Thread nD τ).loc main_arg0)) (ropeCols (m ((c.tc : Thread nD τ).loc main_arg3))) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨(h c).1.trans (funext fun i => ?_), (h c).2.1.trans (funext fun i => ?_), (h c).2.2.1.trans (funext fun i => ?_), (h c).2.2.2⟩)
    (Cert.Reference7Ideal.Value.run m ρ)
  · pointwise [joint, rmsNorm, mm]
  · pointwise [joint, rmsNorm, mm, latentCols, shift]
  · pointwise [mm, ropeCols, shift]

end

section
open Cert.Kernel7Ideal Cert.Kernel7Ideal.Gen
variable (m : (ℓ : Loc nD τ sig) → Buf (Elt Ideal) ℓ) (c : Dev nD)

/-- Which block of each array a grid point works on. -/
theorem idx : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) ∧ (win0_6.index t 0 = t.val ∧ win0_6.index t 1 = 0) :=
  (by decide +kernel : ∀ t : Fin grid0.N, _)

/-- The product of a grid point. -/
theorem product (v0 : Vec Ideal S512x2048 .bf16) (v1 : Vec Ideal S2048x1152 .f32) (r : Fin 512) (j : Fin 1152) :
    mm (φ := .bf16) (ψ := .f32) v0 v1 r j = k0_pay2 v0 v1 (ix2 r j : S512x1152.Idx) := by
  pointwise [k0_pay2, mm]

/-- What a grid point stores of the joint query, of what it loads. -/
theorem pay_q (v0 : Vec Ideal S512x2048 .bf16) (v1 : Vec Ideal S2048x1152 .f32) (v6 : Vec Ideal S1x512 .f32) (r : Fin 512) (j : Fin 512) :
    k0_pay3 v0 v1 v6 (ix2 r j : S512x512.Idx) = rmsNorm (Ideal.ofBits FTy.f32 0x44000000#32) (Ideal.ofBits FTy.f32 0x358637BD#32)
      (fun k : Fin 512 => mm (φ := .bf16) (ψ := .f32) v0 v1 r (shift 0 (by decide : 0 + 512 ≤ 1152) k)) (v6 (ix2 (0 : Fin 1) j : S1x512.Idx)) j := by
  simp only [product]
  unfold k0_pay3
  generalize k0_pay2 v0 v1 = p
  pointwise [rmsNorm, shift]

/-- And of the joint keys and values. -/
theorem pay_kv (v0 : Vec Ideal S512x2048 .bf16) (v1 : Vec Ideal S2048x1152 .f32) (v6 : Vec Ideal S1x512 .f32) (r : Fin 512) (j : Fin 512) :
    k0_pay4 v0 v1 v6 (ix2 r j : S512x512.Idx) = rmsNorm (Ideal.ofBits FTy.f32 0x44000000#32) (Ideal.ofBits FTy.f32 0x358637BD#32)
      (fun k : Fin 512 => mm (φ := .bf16) (ψ := .f32) v0 v1 r (shift 512 (by decide : 512 + 512 ≤ 1152) k)) (v6 (ix2 (0 : Fin 1) j : S1x512.Idx)) j := by
  simp only [product]
  unfold k0_pay4
  generalize k0_pay2 v0 v1 = p
  pointwise [rmsNorm, shift]

/-- And of the rotary keys. -/
theorem pay_rope (v0 : Vec Ideal S512x2048 .bf16) (v1 : Vec Ideal S2048x1152 .f32) (r : Fin 512) (j : Fin 64) :
    k0_pay1 (k0_pay2 v0 v1) (ix2 r j : S512x64.Idx) = mm (φ := .bf16) (ψ := .f32) v0 v1 r (shift 1024 (by decide : 1024 + 64 ≤ 1152) j) := by
  rw [product]
  generalize k0_pay2 v0 v1 = p
  pointwise [k0_pay1, shift]

/-- What a grid point sees of the input. -/
theorem in_block (t : Fin cfg0.N) (r : Fin 512) (l : Fin 2048) (R : Fin 6144) (hR : R.val = t.val * 512 + r.val) :
    iblk m c 0 t (ix2 r l : S512x2048.Idx) = m ((c.tc : Thread nD τ).loc main_arg0) (ix2 R l) := by
  blk_ext! [iblk, V, idx t]

/-- The weights the call is given: the two projections next to each other, and columns nothing reads. -/
theorem entry : V m c main_v1 = concatenate S2048x1152 1 [⟨S2048x512, m ((c.tc : Thread nD τ).loc main_arg1)⟩,
      ⟨S2048x576, m ((c.tc : Thread nD τ).loc main_arg3)⟩, ⟨S2048x64, broadcastInDim S2048x64 ![] bcast_S_S2048x64 (constant (F := Ideal) S_ .f32 0x00000000#32)⟩]
      concatenates_S2048x512_S2048x576_S2048x64_S2048x1152_d1 := rfl

/-- A grid point sees them whole. -/
theorem seen (t : Fin cfg0.N) (z : S2048x1152.Idx) : iblk m c 1 t z = concatenate S2048x1152 1 [⟨S2048x512, m ((c.tc : Thread nD τ).loc main_arg1)⟩,
      ⟨S2048x576, m ((c.tc : Thread nD τ).loc main_arg3)⟩, ⟨S2048x64, broadcastInDim S2048x64 ![] bcast_S_S2048x64 (constant (F := Ideal) S_ .f32 0x00000000#32)⟩]
      concatenates_S2048x512_S2048x576_S2048x64_S2048x1152_d1 z := by
  have h : iblk m c 1 t z = V m c main_v1 z := by blk_ext [iblk, idx t]
  exact h.trans (congrFun (entry m c) z)

/-- First the query's, -/
theorem w_q (t : Fin cfg0.N) (l : Fin 2048) (k : Fin 512) :
    iblk m c 1 t (ix2 l (shift 0 (by decide : 0 + 512 ≤ 1152) k) : S2048x1152.Idx) = m ((c.tc : Thread nD τ).loc main_arg1) (ix2 l k) := by
  refine (seen m c t _).trans ?_
  refine concatenate_apply_piece (t := S2048x1152) (1 : Fin 2) _ _ _ 0 ?_ S2048x512 (m ((c.tc : Thread nD τ).loc main_arg1)) ?_ rfl 0 ?_ (ix2 l k) (fun b hb => ?_) ?_
  · exact (by decide : 0 < 3)
  · rfl
  · rfl
  · fin_cases b
    · rfl
    · exact absurd rfl hb
  · rfl

/-- then those of the keys and values, -/
theorem w_kv (t : Fin cfg0.N) (l : Fin 2048) (k : Fin 512) :
    iblk m c 1 t (ix2 l (shift 512 (by decide : 512 + 512 ≤ 1152) k) : S2048x1152.Idx) = latentCols (m ((c.tc : Thread nD τ).loc main_arg3)) (ix2 l k) := by
  refine (seen m c t _).trans ?_
  refine concatenate_apply_piece (t := S2048x1152) (1 : Fin 2) _ _ _ 1 ?_ S2048x576 (m ((c.tc : Thread nD τ).loc main_arg3)) ?_ rfl 512 ?_ (ix2 l (shift 0 (by decide : 0 + 512 ≤ 576) k)) (fun b hb => ?_) ?_
  · exact (by decide : 1 < 3)
  · rfl
  · rfl
  · fin_cases b
    · rfl
    · exact absurd rfl hb
  · show 512 + (0 + k.val) = 512 + k.val
    omega

/-- then those of the rotary keys. -/
theorem w_rope (t : Fin cfg0.N) (l : Fin 2048) (k : Fin 64) :
    iblk m c 1 t (ix2 l (shift 1024 (by decide : 1024 + 64 ≤ 1152) k) : S2048x1152.Idx) = ropeCols (m ((c.tc : Thread nD τ).loc main_arg3)) (ix2 l k) := by
  refine (seen m c t _).trans ?_
  refine concatenate_apply_piece (t := S2048x1152) (1 : Fin 2) _ _ _ 1 ?_ S2048x576 (m ((c.tc : Thread nD τ).loc main_arg3)) ?_ rfl 512 ?_ (ix2 l (shift 512 (by decide : 512 + 64 ≤ 576) k)) (fun b hb => ?_) ?_
  · exact (by decide : 1 < 3)
  · rfl
  · rfl
  · fin_cases b
    · rfl
    · exact absurd rfl hb
  · show 512 + (512 + k.val) = 1024 + k.val
    omega

/-- The two scales. -/
theorem scale_q (t : Fin cfg0.N) (k : Fin 512) : iblk m c 2 t (ix2 (0 : Fin 1) k : S1x512.Idx) = m ((c.tc : Thread nD τ).loc main_arg2) (ix1 k) := by
  blk_point [iblk, V, idx t]

theorem scale_kv (t : Fin cfg0.N) (k : Fin 512) : iblk m c 3 t (ix2 (0 : Fin 1) k : S1x512.Idx) = m ((c.tc : Thread nD τ).loc main_arg4) (ix1 k) := by
  blk_point [iblk, V, idx t]

/-- The kernel's joint query after the run. -/
theorem final_q : (dats m 0 c).arrAt 4 cfg0.N = fun i : S6144x512.Idx =>
    joint (m ((c.tc : Thread nD τ).loc main_arg0)) (m ((c.tc : Thread nD τ).loc main_arg1)) (m ((c.tc : Thread nD τ).loc main_arg2)) (i 0) (i 1) := by
  refine (dats m 0 c).arrAt_eq_of_covers 4 _ (by decide +kernel) fun t hf y => ?_
  blk_simp
  rw [after0_4]
  have e : ((win0_4.rect t).emb y 0 : ℕ) = win0_4.index t 0 * 512 + (y 0).val := win0_4.rect_emb_val t y 0
  have e' : ((win0_4.rect t).emb y 1 : ℕ) = win0_4.index t 1 * 512 + (y 1).val := win0_4.rect_emb_val t y 1
  rw [(idx t).2.2.2.2.1.1] at e
  rw [(idx t).2.2.2.2.1.2] at e'
  have hy : (ix2 (y 0 : Fin 512) (y 1 : Fin 512) : S512x512.Idx) = y := funext fun a => by fin_cases a <;> rfl
  have hj : (y 1 : Fin 512) = (win0_4.rect t).emb y 1 := Fin.ext (by omega)
  frame_out
  refine (congrArg (k0_pay3 _ _ _) hy.symm).trans ((pay_q _ _ _ _ _).trans (rmsNorm_congr (fun k => sum_mul_congr (fun l => ?_) fun l => ?_) ?_ hj))
  · exact in_block m c t _ l _ e
  · exact w_q m c t l k
  · exact (scale_q m c t _).trans (congrArg (fun j : Fin 512 => m ((c.tc : Thread nD τ).loc main_arg2) (ix1 j)) hj)

/-- The kernel's joint keys and values after the run. -/
theorem final_kv : (dats m 0 c).arrAt 5 cfg0.N = fun i : S6144x512.Idx =>
    joint (m ((c.tc : Thread nD τ).loc main_arg0)) (latentCols (m ((c.tc : Thread nD τ).loc main_arg3))) (m ((c.tc : Thread nD τ).loc main_arg4)) (i 0) (i 1) := by
  refine (dats m 0 c).arrAt_eq_of_covers 5 _ (by decide +kernel) fun t hf y => ?_
  blk_simp
  rw [after0_5]
  have e : ((win0_5.rect t).emb y 0 : ℕ) = win0_5.index t 0 * 512 + (y 0).val := win0_5.rect_emb_val t y 0
  have e' : ((win0_5.rect t).emb y 1 : ℕ) = win0_5.index t 1 * 512 + (y 1).val := win0_5.rect_emb_val t y 1
  rw [(idx t).2.2.2.2.2.1.1] at e
  rw [(idx t).2.2.2.2.2.1.2] at e'
  have hy : (ix2 (y 0 : Fin 512) (y 1 : Fin 512) : S512x512.Idx) = y := funext fun a => by fin_cases a <;> rfl
  have hj : (y 1 : Fin 512) = (win0_5.rect t).emb y 1 := Fin.ext (by omega)
  frame_out
  refine (congrArg (k0_pay4 _ _ _) hy.symm).trans ((pay_kv _ _ _ _ _).trans (rmsNorm_congr (fun k => sum_mul_congr (fun l => ?_) fun l => ?_) ?_ hj))
  · exact in_block m c t _ l _ e
  · exact w_kv m c t l k
  · exact (scale_kv m c t _).trans (congrArg (fun j : Fin 512 => m ((c.tc : Thread nD τ).loc main_arg4) (ix1 j)) hj)

/-- The kernel's rotary keys after the run. -/
theorem final_rope : (dats m 0 c).arrAt 6 cfg0.N = fun i : S6144x64.Idx =>
    mm (φ := .bf16) (m ((c.tc : Thread nD τ).loc main_arg0)) (ropeCols (m ((c.tc : Thread nD τ).loc main_arg3))) (i 0) (i 1) := by
  refine (dats m 0 c).arrAt_eq_of_covers 6 _ (by decide +kernel) fun t hf y => ?_
  blk_simp
  rw [after0_6]
  have e : ((win0_6.rect t).emb y 0 : ℕ) = win0_6.index t 0 * 512 + (y 0).val := win0_6.rect_emb_val t y 0
  have e' : ((win0_6.rect t).emb y 1 : ℕ) = win0_6.index t 1 * 64 + (y 1).val := win0_6.rect_emb_val t y 1
  rw [(idx t).2.2.2.2.2.2.1] at e
  rw [(idx t).2.2.2.2.2.2.2] at e'
  have hy : (ix2 (y 0 : Fin 512) (y 1 : Fin 64) : S512x64.Idx) = y := funext fun a => by fin_cases a <;> rfl
  have hj : (y 1 : Fin 64) = (win0_6.rect t).emb y 1 := Fin.ext (by omega)
  frame_out
  refine (congrArg (k0_pay1 (k0_pay2 _ _)) hy.symm).trans ((pay_rope _ _ _ _).trans (sum_mul_congr (fun l => ?_) fun l => ?_))
  · exact in_block m c t _ l _ e
  · exact (w_rope m c t l _).trans (congrArg (fun j : Fin 64 => ropeCols (m ((c.tc : Thread nD τ).loc main_arg3)) (ix2 l j)) hj)

end

/-- The kernel's arrays are the reference's. -/
theorem equal : Cert.algebraic_Kernel7Ideal_Reference7Ideal := by
  pair_intro
  · run_from Cert.Kernel7Ideal.Value.run_blocks m g
  · run_from ref_eq m' g'
    · exact (final_q m c).symm
    · exact (final_kv m c).symm
    · exact (final_rope m c).symm

end Cert.MlaDown

end
-- ==== Proof.LastNormPrompt.lean ====
/- The last layer's normalisation, for the prompt rows: the first result. -/
module

public import proofs.«01_k».proof.Defs
public import proofs.«01_k».proof.Proof.Gen.Kernel8Ideal.Value
public import proofs.«01_k».proof.Proof.Gen.Reference8Ideal.Run
public import proofs.«01_k».proof.Proof.Dense
public import proofs.«01_k».proof.Proof.Norm
public import Idealize.ShloMosaic.Lib.Claim

@[expose] public section

set_option maxRecDepth 16384

noncomputable section

namespace Cert.LastNormPrompt

open Idealize.ShloMosaic Idealize.ShloMosaic.TcCoe Idealize.SL.Sem Cert.Dense Cert.Norm
open Idealize.ShloMosaic.Pipeline (Dat)

section
open Cert.Reference8Ideal Cert.Reference8Ideal.Gen

/-- The reference's array, element by element. -/
theorem ref_eq (m : (ℓ : Loc nD τ sig) → Buf (Elt Ideal) ℓ) (c : Dev nD) : Cert.Reference8Ideal.Value.res_out0 m c = fun i : S4096x2048.Idx =>
    postNorm promptRow promptGroup 3 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (i 0) (i 1) := by
  funext i
  unfold Cert.Reference8Ideal.Value.res_out0 Cert.Reference8Ideal.Value.res_main_v36
  pointwise [postNorm, layerNorm, mixed, mix, promptRow, promptGroup]
  all_goals rfl

end

section
open Cert.Kernel8Ideal Cert.Kernel8Ideal.Gen
variable (m : (ℓ : Loc nD τ sig) → Buf (Elt Ideal) ℓ) (c : Dev nD)

/-- Which block of each array a grid point works on. -/
theorem idx : ∀ t : Fin cfg0.N, (win0_0.index t 0 = t.val ∧ win0_0.index t 1 = 0) ∧ (win0_1.index t 0 = t.val ∧ win0_1.index t 1 = 0)
    ∧ (win0_2.index t 0 = 0 ∧ win0_2.index t 1 = 5 ∧ win0_2.index t 2 = 0 ∧ win0_2.index t 3 = 0) ∧ (win0_3.index t 0 = 0 ∧ win0_3.index t 1 = 0)
    ∧ (win0_4.index t 0 = 0 ∧ win0_4.index t 1 = 0) ∧ (win0_5.index t 0 = t.val ∧ win0_5.index t 1 = 0) :=
  (by decide +kernel : ∀ t : Fin grid0.N, _)

/-- What a grid point stores, of what it loads. -/
theorem pay (v0 v5 : Vec Ideal S512x2048 .f32) (v3 : Vec Ideal S1x1x1x2048 .f32) (v9 v11 : Vec Ideal S1x2048 .f32) (r : Fin 512) (j : Fin 2048) :
    k0_pay1 v0 v3 v5 v9 v11 (ix2 r j : S512x2048.Idx) = layerNorm (Ideal.ofBits FTy.f32 0x45000000#32) (Ideal.ofBits FTy.f32 0x3727C5AC#32)
      (fun k : Fin 2048 => mix (v0 (ix2 r k : S512x2048.Idx)) (v5 (ix2 r k : S512x2048.Idx)) (v3 (ix4 (0 : Fin 1) (0 : Fin 1) (0 : Fin 1) k : S1x1x1x2048.Idx)))
      (v9 (ix2 (0 : Fin 1) j : S1x2048.Idx)) (v11 (ix2 (0 : Fin 1) j : S1x2048.Idx)) j := by
  pointwise [k0_pay1, layerNorm, mix]

/-- What a grid point sees of the layer's input. -/
theorem in_block (t : Fin cfg0.N) (r : Fin 512) (k : Fin 2048) (R : Fin 6144) (hR : R.val = t.val * 512 + r.val) :
    iblk m c 0 t (ix2 r k : S512x2048.Idx) = m ((c.tc : Thread nD τ).loc main_arg0) (ix2 R k) := by
  blk_ext! [iblk, V, idx t]

/-- And of the channel mixer's output. -/
theorem mixer_block (t : Fin cfg0.N) (r : Fin 512) (k : Fin 2048) (R : Fin 6144) (hR : R.val = t.val * 512 + r.val) :
    iblk m c 1 t (ix2 r k : S512x2048.Idx) = m ((c.tc : Thread nD τ).loc main_arg1) (ix2 R k) := by
  blk_ext! [iblk, V, idx t]

/-- The gate of its rows. -/
theorem gate_block (t : Fin cfg0.N) (k : Fin 2048) (Q : Fin 8) (hQ : Q.val = 0) :
    iblk m c 2 t (ix4 (0 : Fin 1) (0 : Fin 1) (0 : Fin 1) k : S1x1x1x2048.Idx) = m ((c.tc : Thread nD τ).loc main_arg2) (ix4 Q (5 : Fin 6) (0 : Fin 1) k) := by
  blk_ext! [iblk, V, idx t]

/-- The last layer's scale and shift. -/
theorem scale_block (t : Fin cfg0.N) (k : Fin 2048) :
    iblk m c 3 t (ix2 (0 : Fin 1) k : S1x2048.Idx) = m ((c.tc : Thread nD τ).loc main_arg3) (ix2 (3 : Fin 4) k) := by
  blk_point [iblk, V, idx t]

theorem shift_block (t : Fin cfg0.N) (k : Fin 2048) :
    iblk m c 4 t (ix2 (0 : Fin 1) k : S1x2048.Idx) = m ((c.tc : Thread nD τ).loc main_arg4) (ix2 (3 : Fin 4) k) := by
  blk_point [iblk, V, idx t]

/-- The kernel's array after the run. -/
theorem final : (dats m 0 c).arrAt 5 cfg0.N = fun i : S4096x2048.Idx =>
    postNorm promptRow promptGroup 3 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (i 0) (i 1) := by
  refine (dats m 0 c).arrAt_eq_of_covers 5 _ (by decide +kernel) fun t hf y => ?_
  blk_simp
  rw [after0_5]
  have e : ((win0_5.rect t).emb y 0 : ℕ) = win0_5.index t 0 * 512 + (y 0).val := win0_5.rect_emb_val t y 0
  have e' : ((win0_5.rect t).emb y 1 : ℕ) = win0_5.index t 1 * 2048 + (y 1).val := win0_5.rect_emb_val t y 1
  rw [(idx t).2.2.2.2.2.1] at e
  rw [(idx t).2.2.2.2.2.2] at e'
  have hy : (ix2 (y 0 : Fin 512) (y 1 : Fin 2048) : S512x2048.Idx) = y := funext fun a => by fin_cases a <;> rfl
  have hj : (y 1 : Fin 2048) = (win0_5.rect t).emb y 1 := Fin.ext (by omega)
  have hr : (promptRow ((win0_5.rect t).emb y 0)).val = t.val * 512 + (y 0).val := e
  have hq : (promptGroup ((win0_5.rect t).emb y 0)).val = 0 := rfl
  frame_out
  refine (congrArg (k0_pay1 _ _ _ _ _) hy.symm).trans ((pay _ _ _ _ _ _ _).trans (layerNorm_congr (fun k => ?_) ?_ ?_ ?_))
  · exact congr (congrArg₂ mix (in_block m c t _ k _ hr) (mixer_block m c t _ k _ hr)) (gate_block m c t k _ hq)
  · exact (scale_block m c t _).trans (congrArg (fun j : Fin 2048 => m ((c.tc : Thread nD τ).loc main_arg3) (ix2 (3 : Fin 4) j)) hj)
  · exact (shift_block m c t _).trans (congrArg (fun j : Fin 2048 => m ((c.tc : Thread nD τ).loc main_arg4) (ix2 (3 : Fin 4) j)) hj)
  · exact hj

end

/-- The kernel's array is the reference's. -/
theorem equal : Cert.algebraic_Kernel8Ideal_Reference8Ideal := by
  pair_intro
  · run_from Cert.Kernel8Ideal.Value.run_blocks m g
  · refine (θ_run _ _ _).mono (fun r h c => ⟨(h c).1.trans ?_, (h c).2⟩) (Cert.Reference8Ideal.Value.run m' g')
    have e := ref_eq m' c
    obtain ⟨a0, a1, a2, a3, a4⟩ := hagree c
    rw [a0, a1, a2, a3, a4] at e
    exact e.trans (final m c).symm

end Cert.LastNormPrompt

end
-- ==== Proof.LastNormSample.lean ====
/- The last layer's normalisation, for the sample rows: the second result. -/
module

public import proofs.«01_k».proof.Defs
public import proofs.«01_k».proof.Proof.Gen.Kernel9Ideal.Value
public import proofs.«01_k».proof.Proof.Gen.Reference9Ideal.Run
public import proofs.«01_k».proof.Proof.Dense
public import proofs.«01_k».proof.Proof.Norm
public import Idealize.ShloMosaic.Lib.Claim

@[expose] public section

set_option maxRecDepth 16384

noncomputable section

namespace Cert.LastNormSample

open Idealize.ShloMosaic Idealize.ShloMosaic.TcCoe Idealize.SL.Sem Cert.Dense Cert.Norm
open Idealize.ShloMosaic.Pipeline (Dat)

section
open Cert.Reference9Ideal Cert.Reference9Ideal.Gen

/-- The reference's array, element by element. -/
theorem ref_eq (m : (ℓ : Loc nD τ sig) → Buf (Elt Ideal) ℓ) (c : Dev nD) : Cert.Reference9Ideal.Value.res_out0 m c = fun i : S2048x2048.Idx =>
    postNorm sampleRow sampleGroup 3 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (i 0) (i 1) := by
  funext i
  unfold Cert.Reference9Ideal.Value.res_out0 Cert.Reference9Ideal.Value.res_main_v39
  pointwise [postNorm, layerNorm, mixed, mix, sampleRow, sampleGroup]

end

section
open Cert.Kernel9Ideal Cert.Kernel9Ideal.Gen
variable (m : (ℓ : Loc nD τ sig) → Buf (Elt Ideal) ℓ) (c : Dev nD)

/-- Which block of each array a grid point works on. -/
theorem idx : ∀ t : Fin cfg0.N, (win0_0.index t 0 = 8 + t.val ∧ win0_0.index t 1 = 0) ∧ (win0_1.index t 0 = 8 + t.val ∧ win0_1.index t 1 = 0)
    ∧ (win0_2.index t 0 = 1 + t.val / 2 ∧ win0_2.index t 1 = 5 ∧ win0_2.index t 2 = 0 ∧ win0_2.index t 3 = 0) ∧ (win0_3.index t 0 = 0 ∧ win0_3.index t 1 = 0)
    ∧ (win0_4.index t 0 = 0 ∧ win0_4.index t 1 = 0) ∧ (win0_5.index t 0 = t.val ∧ win0_5.index t 1 = 0) :=
  (by decide +kernel : ∀ t : Fin grid0.N, _)

/-- What a grid point stores, of what it loads. -/
theorem pay (v0 v5 : Vec Ideal S512x2048 .f32) (v3 : Vec Ideal S1x1x1x2048 .f32) (v9 v11 : Vec Ideal S1x2048 .f32) (r : Fin 512) (j : Fin 2048) :
    k0_pay1 v0 v3 v5 v9 v11 (ix2 r j : S512x2048.Idx) = layerNorm (Ideal.ofBits FTy.f32 0x45000000#32) (Ideal.ofBits FTy.f32 0x3727C5AC#32)
      (fun k : Fin 2048 => mix (v0 (ix2 r k : S512x2048.Idx)) (v5 (ix2 r k : S512x2048.Idx)) (v3 (ix4 (0 : Fin 1) (0 : Fin 1) (0 : Fin 1) k : S1x1x1x2048.Idx)))
      (v9 (ix2 (0 : Fin 1) j : S1x2048.Idx)) (v11 (ix2 (0 : Fin 1) j : S1x2048.Idx)) j := by
  pointwise [k0_pay1, layerNorm, mix]

/-- What a grid point sees of the layer's input. -/
theorem in_block (t : Fin cfg0.N) (r : Fin 512) (k : Fin 2048) (R : Fin 6144) (hR : R.val = (8 + t.val) * 512 + r.val) :
    iblk m c 0 t (ix2 r k : S512x2048.Idx) = m ((c.tc : Thread nD τ).loc main_arg0) (ix2 R k) := by
  blk_ext! [iblk, V, idx t]

/-- And of the channel mixer's output. -/
theorem mixer_block (t : Fin cfg0.N) (r : Fin 512) (k : Fin 2048) (R : Fin 6144) (hR : R.val = (8 + t.val) * 512 + r.val) :
    iblk m c 1 t (ix2 r k : S512x2048.Idx) = m ((c.tc : Thread nD τ).loc main_arg1) (ix2 R k) := by
  blk_ext! [iblk, V, idx t]

/-- The gate of its rows. -/
theorem gate_block (t : Fin cfg0.N) (k : Fin 2048) (Q : Fin 8) (hQ : Q.val = 1 + t.val / 2) :
    iblk m c 2 t (ix4 (0 : Fin 1) (0 : Fin 1) (0 : Fin 1) k : S1x1x1x2048.Idx) = m ((c.tc : Thread nD τ).loc main_arg2) (ix4 Q (5 : Fin 6) (0 : Fin 1) k) := by
  blk_ext! [iblk, V, idx t]

/-- The last layer's scale and shift. -/
theorem scale_block (t : Fin cfg0.N) (k : Fin 2048) :
    iblk m c 3 t (ix2 (0 : Fin 1) k : S1x2048.Idx) = m ((c.tc : Thread nD τ).loc main_arg3) (ix2 (3 : Fin 4) k) := by
  blk_point [iblk, V, idx t]

theorem shift_block (t : Fin cfg0.N) (k : Fin 2048) :
    iblk m c 4 t (ix2 (0 : Fin 1) k : S1x2048.Idx) = m ((c.tc : Thread nD τ).loc main_arg4) (ix2 (3 : Fin 4) k) := by
  blk_point [iblk, V, idx t]

/-- The kernel's array after the run. -/
theorem final : (dats m 0 c).arrAt 5 cfg0.N = fun i : S2048x2048.Idx =>
    postNorm sampleRow sampleGroup 3 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (i 0) (i 1) := by
  refine (dats m 0 c).arrAt_eq_of_covers 5 _ (by decide +kernel) fun t hf y => ?_
  blk_simp
  rw [after0_5]
  have e : ((win0_5.rect t).emb y 0 : ℕ) = win0_5.index t 0 * 512 + (y 0).val := win0_5.rect_emb_val t y 0
  have e' : ((win0_5.rect t).emb y 1 : ℕ) = win0_5.index t 1 * 2048 + (y 1).val := win0_5.rect_emb_val t y 1
  rw [(idx t).2.2.2.2.2.1] at e
  rw [(idx t).2.2.2.2.2.2] at e'
  have hy : (ix2 (y 0 : Fin 512) (y 1 : Fin 2048) : S512x2048.Idx) = y := funext fun a => by fin_cases a <;> rfl
  have hj : (y 1 : Fin 2048) = (win0_5.rect t).emb y 1 := Fin.ext (by omega)
  have y0 : (y 0).val < 512 := (y 0).isLt
  have hr : (sampleRow ((win0_5.rect t).emb y 0)).val = (8 + t.val) * 512 + (y 0).val := by
    have : (sampleRow ((win0_5.rect t).emb y 0)).val = 4096 + ((win0_5.rect t).emb y 0).val := rfl
    omega
  have hq : (sampleGroup ((win0_5.rect t).emb y 0)).val = 1 + t.val / 2 := by
    have : (sampleGroup ((win0_5.rect t).emb y 0)).val = 1 + ((win0_5.rect t).emb y 0).val / 1024 := rfl
    omega
  frame_out
  refine (congrArg (k0_pay1 _ _ _ _ _) hy.symm).trans ((pay _ _ _ _ _ _ _).trans (layerNorm_congr (fun k => ?_) ?_ ?_ ?_))
  · exact congr (congrArg₂ mix (in_block m c t _ k _ hr) (mixer_block m c t _ k _ hr)) (gate_block m c t k _ hq)
  · exact (scale_block m c t _).trans (congrArg (fun j : Fin 2048 => m ((c.tc : Thread nD τ).loc main_arg3) (ix2 (3 : Fin 4) j)) hj)
  · exact (shift_block m c t _).trans (congrArg (fun j : Fin 2048 => m ((c.tc : Thread nD τ).loc main_arg4) (ix2 (3 : Fin 4) j)) hj)
  · exact hj

end

/-- The kernel's array is the reference's. -/
theorem equal : Cert.algebraic_Kernel9Ideal_Reference9Ideal := by
  pair_intro
  · run_from Cert.Kernel9Ideal.Value.run_blocks m g
  · refine (θ_run _ _ _).mono (fun r h c => ⟨(h c).1.trans ?_, (h c).2⟩) (Cert.Reference9Ideal.Value.run m' g')
    have e := ref_eq m' c
    obtain ⟨a0, a1, a2, a3, a4⟩ := hagree c
    rw [a0, a1, a2, a3, a4] at e
    exact e.trans (final m c).symm

end Cert.LastNormSample

end
-- ==== Proof.MlaQueryUp.lean ====
/- The latent attention's query up projection: the heads' plain columns first, then their rotary columns. -/
module

public import proofs.«01_k».proof.Defs
public import proofs.«01_k».proof.Proof.Gen.Kernel10Ideal.Value
public import proofs.«01_k».proof.Proof.Gen.Reference10Ideal.Run
public import proofs.«01_k».proof.Proof.Dense
public import Idealize.ShloMosaic.Lib.Claim

@[expose] public section

set_option maxRecDepth 16384

noncomputable section

namespace Cert.MlaQueryUp

open Idealize.ShloMosaic Idealize.ShloMosaic.TcCoe Idealize.SL.Sem Cert.Dense
open Idealize.ShloMosaic.Pipeline (Dat)

/-- Which column of the projection, its heads one after the other, stands in column `j` of the result. -/
def col (j : Fin 3072) : Fin 3072 :=
  if h : j.val < 2048 then ⟨j.val / 128 * 192 + j.val % 128, by omega⟩ else ⟨(j.val - 2048) / 64 * 192 + (128 + (j.val - 2048) % 64), by omega⟩

/-- The weights with their columns in that order. -/
def regrouped (w : FVec Ideal ⟨2, ![512, 3072]⟩ .f32) : FVec Ideal ⟨2, ![512, 3072]⟩ .bf16 := fun i => w (ix2 (i 0 : Fin 512) (col (i 1)))

section
open Cert.Reference10Ideal Cert.Reference10Ideal.Gen

/-- The reference's regrouping of the heads, element by element. -/
theorem regroup_ref (a : FVec Ideal S6144x3072 .f32) (i : Fin 6144) (j : Fin 3072) :
    concatenate S6144x3072 1 [⟨S6144x2048, (shapeCast _ (extractStridedSlice S6144x16x128 ![0, 0, 0] (shapeCast _ a shapeCasts_S6144x3072_S6144x16x192) slices_S6144x16x192_S6144x16x128_0_0_0) shapeCasts_S6144x16x128_S6144x2048)⟩,
      ⟨S6144x1024, (shapeCast _ (extractStridedSlice S6144x16x64 ![0, 0, 128] (shapeCast _ a shapeCasts_S6144x3072_S6144x16x192) slices_S6144x16x192_S6144x16x64_0_0_128) shapeCasts_S6144x16x64_S6144x1024)⟩] concatenates_S6144x2048_S6144x1024_S6144x3072_d1 (ix2 i j : S6144x3072.Idx)
      = a (ix2 i (col j)) := by
  pointwise
  unfold col
  split <;> rfl

/-- The reference's array, element by element. -/
theorem ref_eq (x : FVec Ideal S6144x512 .bf16) (w : FVec Ideal S512x3072 .f32) :
    truncf .bf16 (concatenate S6144x3072 1 [⟨S6144x2048, (shapeCast _ (extractStridedSlice S6144x16x128 ![0, 0, 0] (shapeCast _ (Host.dotGeneral dot_S6144x512_S512x3072_S6144x3072_1_0_0_1_n_n none (extf .f32 x bitsLt_bf16_f32) w) shapeCasts_S6144x3072_S6144x16x192) slices_S6144x16x192_S6144x16x128_0_0_0) shapeCasts_S6144x16x128_S6144x2048)⟩, ⟨S6144x1024, (shapeCast _ (extractStridedSlice S6144x16x64 ![0, 0, 128] (shapeCast _ (Host.dotGeneral dot_S6144x512_S512x3072_S6144x3072_1_0_0_1_n_n none (extf .f32 x bitsLt_bf16_f32) w) shapeCasts_S6144x3072_S6144x16x192) slices_S6144x16x192_S6144x16x64_0_0_128) shapeCasts_S6144x16x64_S6144x1024)⟩] concatenates_S6144x2048_S6144x1024_S6144x3072_d1) bitsLt_bf16_f32
      = fun i : S6144x3072.Idx => mm x (regrouped w) (i 0) (i 1) := by
  funext i
  have e : ∀ z : FVec Ideal S6144x3072 .f32, truncf .bf16 z bitsLt_bf16_f32 i = z (ix2 (i 0 : Fin 6144) (i 1 : Fin 3072) : S6144x3072.Idx) := fun z => by pointwise
  rw [e]
  refine (regroup_ref _ _ _).trans ?_
  pointwise [mm, regrouped]

end

section
open Cert.Kernel10Ideal Cert.Kernel10Ideal.Gen

/-- The kernel's regrouping of the weights, element by element. -/
theorem regroup (a : FVec Ideal S512x3072 .f32) (i : Fin 512) (j : Fin 3072) :
    concatenate S512x3072 1 [⟨S512x2048, (shapeCast S512x2048 (extractStridedSlice S512x16x128 ![0, 0, 0] (shapeCast S512x16x192 a shapeCasts_S512x3072_S512x16x192) slices_S512x16x192_S512x16x128_0_0_0) shapeCasts_S512x16x128_S512x2048)⟩,
      ⟨S512x1024, (shapeCast S512x1024 (extractStridedSlice S512x16x64 ![0, 0, 128] (shapeCast S512x16x192 a shapeCasts_S512x3072_S512x16x192) slices_S512x16x192_S512x16x64_0_0_128) shapeCasts_S512x16x64_S512x1024)⟩] concatenates_S512x2048_S512x1024_S512x3072_d1 (ix2 i j : S512x3072.Idx)
      = a (ix2 i (col j)) := by
  pointwise
  unfold col
  split <;> rfl

variable (m : (ℓ : Loc nD τ sig) → Buf (Elt Ideal) ℓ) (c : Dev nD)

/-- Which block of each array a grid point works on. -/
theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, _)

/-- The weights in this memory. -/
def W : FVec Ideal S512x3072 .bf16 := regrouped (m ((c.tc : Thread nD τ).loc main_arg1))

/-- The weights the call is given. -/
theorem entry : V m c main_v5 = concatenate S512x3072 1 [⟨S512x2048, (shapeCast S512x2048 (extractStridedSlice S512x16x128 ![0, 0, 0] (shapeCast S512x16x192 (m ((c.tc : Thread nD τ).loc main_arg1)) shapeCasts_S512x3072_S512x16x192) slices_S512x16x192_S512x16x128_0_0_0) shapeCasts_S512x16x128_S512x2048)⟩,
      ⟨S512x1024, (shapeCast S512x1024 (extractStridedSlice S512x16x64 ![0, 0, 128] (shapeCast S512x16x192 (m ((c.tc : Thread nD τ).loc main_arg1)) shapeCasts_S512x3072_S512x16x192) slices_S512x16x192_S512x16x64_0_0_128) shapeCasts_S512x16x64_S512x1024)⟩] concatenates_S512x2048_S512x1024_S512x3072_d1 := rfl

/-- A grid point sees them whole. -/
theorem block (t : Fin cfg0.N) (y : S512x3072.Idx) : iblk m c 1 t y = W m c y := by
  have h : iblk m c 1 t y = V m c main_v5 y := by blk_ext [iblk, idx t]
  have hy : (ix2 (y 0 : Fin 512) (y 1 : Fin 3072) : S512x3072.Idx) = y := funext fun a => by fin_cases a <;> rfl
  refine h.trans ((congrFun (entry m c) y).trans ?_)
  rw [← hy]
  exact regroup _ _ _

/-- The first grid point leaves the weights in the scratch array. -/
theorem scratch_first (t : Fin cfg0.N) (h : t.val % 12 = 0) : (outsAt0 m c t.val t.isLt).2 = W m c := by
  rw [outsAt0_A m c t h]
  dsimp only
  unfold sout0_A_0
  funext y
  frame_out
  pointwise [k0_pay1]
  exact block m c t y

/-- So does every later one, which leaves the array as it finds it. -/
theorem scratch : ∀ (n : ℕ) (hn : n < cfg0.N), (outsAt0 m c n hn).2 = W m c
  | 0, hn => scratch_first m c ⟨0, hn⟩ rfl
  | n + 1, hn => by
    have h : ¬ (n + 1) % 12 = 0 := by have : n + 1 < 12 := hn; omega
    exact (congrArg Prod.snd (outsAt0_B m c ⟨n + 1, hn⟩ h)).trans (scratch n (Nat.lt_of_succ_lt hn))

/-- The kernel's product after the run. -/
theorem final : (dats m 0 c).arrAt 2 cfg0.N = fun i : S6144x3072.Idx =>
    mm (φ := .bf16) (m ((c.tc : Thread nD τ).loc main_arg0)) (W m c) (i 0) (i 1) := by
  refine (dats m 0 c).arrAt_eq_of_covers 2 _ (by decide +kernel) fun t hf y => ?_
  blk_simp
  rw [after0_2]
  by_cases h : t.val % 12 = 0
  · rw [outsAt0_A m c t h]
    dsimp only
    frame_out
    pointwise [k0_pay1, k0_pay2, mm]
    refine sum_mul_congr (fun k => ?_) fun k => ?_
    · blk_point [iblk, V, idx t]
    · refine (block m c t _).trans ?_
      blk_point [idx t]
  · rw [outsAt0_B m c t h, scratch]
    dsimp only
    generalize hW : W m c = w
    frame_out
    pointwise [k0_pay2, mm]
    subst hW
    refine sum_mul_congr (fun k => ?_) fun k => ?_
    · blk_point [iblk, V, idx t]
    · refine (congrFun ((Memref.isWhole_whole cc0_scratch0).read_unread (Val := Elt Ideal) _) _).trans ?_
      blk_point [idx t]

end

/-- The kernel's array is the reference's. -/
theorem equal : Cert.algebraic_Kernel10Ideal_Reference10Ideal := by
  pair_intro
  · run_from Cert.Kernel10Ideal.Value.run_blocks m g
  · run_from Cert.Reference10Ideal.Value.run m' g'
    exact (ref_eq _ _).trans (final m c).symm

end Cert.MlaQueryUp

end
-- ==== Proof.MlaKvUp.lean ====
/- The latent attention's key and value up projections, over the call's rows and the cached ones. -/
module

public import proofs.«01_k».proof.Defs
public import proofs.«01_k».proof.Proof.Gen.Kernel11Ideal.Value
public import proofs.«01_k».proof.Proof.Gen.Reference11Ideal.Run
public import proofs.«01_k».proof.Proof.Dense
public import Idealize.ShloMosaic.Lib.Claim

@[expose] public section

set_option maxRecDepth 16384

noncomputable section

namespace Cert.MlaKvUp

open Idealize.ShloMosaic Idealize.ShloMosaic.TcCoe Idealize.SL.Sem Cert.Dense
open Idealize.ShloMosaic.Pipeline (Dat)

/-- Element `k` of row `r` of the joint keys and values: the call's rows, then the cached rows of the two sequences. -/
def rowAt (x : FVec Ideal ⟨2, ![6144, 512]⟩ .f32) (d : FVec Ideal ⟨3, ![2, 256, 512]⟩ .f32) (r : Fin 6656) (k : Fin 512) : EReal :=
  if h : r.val < 6144 then x (ix2 (⟨r.val, h⟩ : Fin 6144) k)
  else d (ix3 (⟨(r.val - 6144) / 256, by omega⟩ : Fin 2) (⟨(r.val - 6144) % 256, by omega⟩ : Fin 256) k)

/-- The rows as an array. -/
def rows (x : FVec Ideal ⟨2, ![6144, 512]⟩ .f32) (d : FVec Ideal ⟨3, ![2, 256, 512]⟩ .f32) : FVec Ideal ⟨2, ![6656, 512]⟩ .bf16 :=
  fun i => rowAt x d (i 0) (i 1)

/-- Element `k` of column `j` of the weights: those of the keys, then those of the values. -/
def weightAt (w v : FVec Ideal ⟨2, ![512, 2048]⟩ .f32) (k : Fin 512) (j : Fin 4096) : EReal :=
  if h : j.val < 2048 then w (ix2 k (⟨j.val, h⟩ : Fin 2048)) else v (ix2 k (⟨j.val - 2048, by omega⟩ : Fin 2048))

/-- The weights as an array. -/
def beside (w v : FVec Ideal ⟨2, ![512, 2048]⟩ .f32) : FVec Ideal ⟨2, ![512, 4096]⟩ .bf16 :=
  fun i => weightAt w v (i 0) (i 1)

section
open Cert.Reference11Ideal Cert.Reference11Ideal.Gen

/-- The reference's rows, element by element. -/
theorem rows_ref (x : FVec Ideal S6144x512 .f32) (d : FVec Ideal S2x256x512 .f32) (i : Fin 6656) (k : Fin 512) :
    concatenate S6656x512 0 [⟨S6144x512, x⟩, ⟨S512x512, (shapeCast _ d shapeCasts_S2x256x512_S512x512)⟩] concatenates_S6144x512_S512x512_S6656x512_d0 (ix2 i k : S6656x512.Idx)
      = rowAt x d i k := by
  pointwise
  unfold rowAt
  rfl

/-- One element of the reference's array. -/
theorem ref_at (x : FVec Ideal S6144x512 .f32) (d : FVec Ideal S2x256x512 .f32) (w v : FVec Ideal S512x2048 .f32) (i : Fin 6656) (j : Fin 4096) :
    concatenate S6656x4096 1 [⟨S6656x2048, (Host.dotGeneral dot_S6656x512_S512x2048_S6656x2048_1_0_0_1_n_n none (concatenate S6656x512 0 [⟨S6144x512, x⟩, ⟨S512x512, (shapeCast _ d shapeCasts_S2x256x512_S512x512)⟩] concatenates_S6144x512_S512x512_S6656x512_d0) w)⟩, ⟨S6656x2048, (Host.dotGeneral dot_S6656x512_S512x2048_S6656x2048_1_0_0_1_n_n none (concatenate S6656x512 0 [⟨S6144x512, x⟩, ⟨S512x512, (shapeCast _ d shapeCasts_S2x256x512_S512x512)⟩] concatenates_S6144x512_S512x512_S6656x512_d0) v)⟩] concatenates_S6656x2048_S6656x2048_S6656x4096_d1 (ix2 i j : S6656x4096.Idx)
      = mm (rows x d) (beside w v) i j := by
  generalize hr : concatenate S6656x512 0 [⟨S6144x512, x⟩, ⟨S512x512, (shapeCast _ d shapeCasts_S2x256x512_S512x512)⟩] concatenates_S6144x512_S512x512_S6656x512_d0 = a
  have ha : ∀ (k : Fin 512), rows x d (ix2 i k) = a (ix2 i k : S6656x512.Idx) := fun k => hr ▸ (rows_ref x d i k).symm
  unfold mm
  simp only [ha]
  pointwise
  split
  · next h => exact sum_mul_congr (fun _ => rfl) fun k => (dif_pos h : weightAt w v k j = _).symm
  · next h => exact sum_mul_congr (fun _ => rfl) fun k => (dif_neg h : weightAt w v k j = _).symm

/-- The reference's array, element by element. -/
theorem ref_eq (x : FVec Ideal S6144x512 .f32) (d : FVec Ideal S2x256x512 .f32) (w v : FVec Ideal S512x2048 .f32) :
    truncf .bf16 (concatenate S6656x4096 1 [⟨S6656x2048, (Host.dotGeneral dot_S6656x512_S512x2048_S6656x2048_1_0_0_1_n_n none (concatenate S6656x512 0 [⟨S6144x512, x⟩, ⟨S512x512, (shapeCast _ d shapeCasts_S2x256x512_S512x512)⟩] concatenates_S6144x512_S512x512_S6656x512_d0) w)⟩, ⟨S6656x2048, (Host.dotGeneral dot_S6656x512_S512x2048_S6656x2048_1_0_0_1_n_n none (concatenate S6656x512 0 [⟨S6144x512, x⟩, ⟨S512x512, (shapeCast _ d shapeCasts_S2x256x512_S512x512)⟩] concatenates_S6144x512_S512x512_S6656x512_d0) v)⟩] concatenates_S6656x2048_S6656x2048_S6656x4096_d1) bitsLt_bf16_f32
      = fun i : S6656x4096.Idx => mm (rows x d) (beside w v) (i 0) (i 1) := by
  funext i
  have e : ∀ z : FVec Ideal S6656x4096 .f32, truncf .bf16 z bitsLt_bf16_f32 i = z (ix2 (i 0 : Fin 6656) (i 1 : Fin 4096) : S6656x4096.Idx) := fun z => by pointwise
  rw [e]
  exact ref_at _ _ _ _ _ _

end

section
open Cert.Kernel11Ideal Cert.Kernel11Ideal.Gen

variable (m : (ℓ : Loc nD τ sig) → Buf (Elt Ideal) ℓ) (c : Dev nD)

/-- Which block of each array a grid point works on. -/
theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, _)

/-- The rows in this memory. -/
def X : FVec Ideal S6656x512 .bf16 := rows (m ((c.tc : Thread nD τ).loc main_arg0)) (m ((c.tc : Thread nD τ).loc main_arg1))

/-- The weights in this memory. -/
def W : FVec Ideal S512x4096 .bf16 := beside (m ((c.tc : Thread nD τ).loc main_arg2)) (m ((c.tc : Thread nD τ).loc main_arg3))

/-- The rows the call is given. -/
theorem entry_rows {F : FTy → Type} [FloatOps F] (m : (ℓ : Loc nD τ sig) → Buf (Elt F) ℓ) (c : Dev nD) :
    V m c main_v2 = truncf .bf16 (concatenate S6656x512 0 [⟨S6144x512, m ((c.tc : Thread nD τ).loc main_arg0)⟩,
    ⟨S512x512, shapeCast S512x512 (m ((c.tc : Thread nD τ).loc main_arg1)) shapeCasts_S2x256x512_S512x512⟩] concatenates_S6144x512_S512x512_S6656x512_d0) bitsLt_bf16_f32 := rfl

/-- The weights the call is given. -/
theorem entry_weights : V m c main_v3 = concatenate S512x4096 1 [⟨S512x2048, m ((c.tc : Thread nD τ).loc main_arg2)⟩,
    ⟨S512x2048, m ((c.tc : Thread nD τ).loc main_arg3)⟩] concatenates_S512x2048_S512x2048_S512x4096_d1 := rfl

/-- Row `i` of the call's rows and the cached ones, one after the other. -/
theorem rows_at (x : FVec Ideal S6144x512 .f32) (d : FVec Ideal S2x256x512 .f32) (i : Fin 6656) (k : Fin 512) :
    concatenate S6656x512 0 [⟨S6144x512, x⟩, ⟨S512x512, (shapeCast S512x512 d shapeCasts_S2x256x512_S512x512)⟩] concatenates_S6144x512_S512x512_S6656x512_d0 (ix2 i k : S6656x512.Idx)
      = rowAt x d i k := by
  pointwise
  unfold rowAt
  rfl

/-- They are those rows. -/
theorem rows_eq : V m c main_v2 = X m c := by
  refine (entry_rows m c).trans (funext fun i => ?_)
  have e : ∀ z : FVec Ideal S6656x512 .f32, truncf .bf16 z bitsLt_bf16_f32 i = z (ix2 (i 0 : Fin 6656) (i 1 : Fin 512) : S6656x512.Idx) := fun z => by pointwise
  exact (e _).trans (rows_at _ _ _ _)

/-- They are those weights. -/
theorem weights_eq : V m c main_v3 = W m c := by
  rw [entry_weights]
  funext i
  pointwise
  unfold W beside weightAt
  rfl

/-- A grid point sees its rows. -/
theorem in_block (t : Fin cfg0.N) (r : Fin 512) (k : Fin 512) (R : Fin 6656) (hR : R.val = t.val * 512 + r.val) :
    iblk m c 0 t (ix2 r k : S512x512.Idx) = X m c (ix2 R k) := by
  rw [← rows_eq]
  blk_ext [iblk, idx t]

/-- A grid point sees the weights whole. -/
theorem block (t : Fin cfg0.N) (y : S512x4096.Idx) : iblk m c 1 t y = W m c y := by
  rw [← weights_eq]
  blk_ext [iblk, idx t]

/-- The first grid point leaves the weights in the scratch array. -/
theorem scratch_first (t : Fin cfg0.N) (h : t.val % 13 = 0) : (outsAt0 m c t.val t.isLt).2 = W m c := by
  rw [outsAt0_A m c t h]
  dsimp only
  unfold sout0_A_0
  funext y
  frame_out
  pointwise [k0_pay1]
  exact block m c t y

/-- So does every later one, which leaves the array as it finds it. -/
theorem scratch : ∀ (n : ℕ) (hn : n < cfg0.N), (outsAt0 m c n hn).2 = W m c
  | 0, hn => scratch_first m c ⟨0, hn⟩ rfl
  | n + 1, hn => by
    have h : ¬ (n + 1) % 13 = 0 := by have : n + 1 < 13 := hn; omega
    exact (congrArg Prod.snd (outsAt0_B m c ⟨n + 1, hn⟩ h)).trans (scratch n (Nat.lt_of_succ_lt hn))

/-- The kernel's product after the run. -/
theorem final : (dats m 0 c).arrAt 2 cfg0.N = fun i : S6656x4096.Idx =>
    mm (X m c) (W m c) (i 0) (i 1) := by
  refine (dats m 0 c).arrAt_eq_of_covers 2 _ (by decide +kernel) fun t hf y => ?_
  blk_simp
  rw [after0_2]
  have e : ((win0_2.rect t).emb y 0 : ℕ) = win0_2.index t 0 * 512 + (y 0).val := win0_2.rect_emb_val t y 0
  rw [(idx t).2.2.1] at e
  by_cases h : t.val % 13 = 0
  · rw [outsAt0_A m c t h]
    dsimp only
    frame_out
    pointwise [k0_pay1, k0_pay2, mm]
    refine sum_mul_congr (fun k => ?_) fun k => ?_
    · exact in_block m c t _ k _ e
    · refine (block m c t _).trans ?_
      blk_point [idx t]
  · rw [outsAt0_B m c t h, scratch]
    dsimp only
    generalize hW : W m c = w
    frame_out
    pointwise [k0_pay2, mm]
    subst hW
    refine sum_mul_congr (fun k => ?_) fun k => ?_
    · exact in_block m c t _ k _ e
    · refine (congrFun ((Memref.isWhole_whole cc0_scratch0).read_unread (Val := Elt Ideal) _) _).trans ?_
      blk_point [idx t]

end

/-- The kernel's array is the reference's. -/
theorem equal : Cert.algebraic_Kernel11Ideal_Reference11Ideal := by
  pair_intro
  · run_from Cert.Kernel11Ideal.Value.run_blocks m g
  · refine (θ_run _ _ _).mono (fun r h c => ⟨(h c).1.trans ?_, (h c).2⟩) (Cert.Reference11Ideal.Value.run m' g')
    obtain ⟨a0, a1, a2, a3⟩ := hagree c
    rw [a0, a1, a2, a3]
    exact (ref_eq _ _ _ _).trans (final m c).symm

end Cert.MlaKvUp

end
-- ==== Proof.Conv.lean ====
/- The gated short convolution, one output element at a time: a row's own product and its two neighbours' within the sequence,
   each times its tap's weight, plus the bias, times the gate. The two calls share it, with their own sequence lengths. -/
module

public import proofs.«01_k».proof.Proof.Dense

@[expose] public section

set_option maxRecDepth 16384

noncomputable section

namespace Cert.GatedConv

open Idealize.ShloMosaic

/-- The gate, the product of the two factors, and that product times the weight of tap `k`, at a row and a channel: `h` holds
    the gate and the factors side by side, `w` one row of weights per tap. -/
def gate (h : FVec Ideal ⟨2, ![6144, 6144]⟩ .bf16) (r : Fin 6144) (c : Fin 2048) : EReal := h (ix2 r (⟨c.val, by omega⟩ : Fin 6144))

def prod (h : FVec Ideal ⟨2, ![6144, 6144]⟩ .bf16) (r : Fin 6144) (c : Fin 2048) : EReal :=
  h (ix2 r (⟨2048 + c.val, by omega⟩ : Fin 6144)) * h (ix2 r (⟨4096 + c.val, by omega⟩ : Fin 6144))

def tap (h : FVec Ideal ⟨2, ![6144, 6144]⟩ .bf16) (w : FVec Ideal ⟨2, ![3, 2048]⟩ .f32) (k : Fin 3) (r : Fin 6144) (c : Fin 2048) : EReal :=
  prod h r c * w (ix2 k c)

/-- The row before and the row after, counted around the whole array: only read inside a sequence. -/
def before (r : Fin 6144) : Fin 6144 := ⟨(r.val + 6143) % 6144, by omega⟩

def after (r : Fin 6144) : Fin 6144 := ⟨(r.val + 1) % 6144, by omega⟩

/-- One output element, for sequences of `T` rows. -/
def conv (T : ℕ) (h : FVec Ideal ⟨2, ![6144, 6144]⟩ .bf16) (w : FVec Ideal ⟨2, ![3, 2048]⟩ .f32) (b : FVec Ideal ⟨1, ![2048]⟩ .f32) (r : Fin 6144) (c : Fin 2048) : EReal :=
  gate h r c * ((if r.val % T = 0 then 0 else tap h w 0 (before r) c) + tap h w 1 r c
    + (if r.val % T = T - 1 then 0 else tap h w 2 (after r) c) + b (ix1 c))

/-- The element from its parts, the position `y` in the sequence tested instead of the row. -/
theorem conv_eq {T : ℕ} {h : FVec Ideal ⟨2, ![6144, 6144]⟩ .bf16} {w : FVec Ideal ⟨2, ![3, 2048]⟩ .f32} {b : FVec Ideal ⟨1, ![2048]⟩ .f32}
    {r : Fin 6144} {c : Fin 2048} {g p o n d : EReal} (y : ℕ) (hy : y = r.val % T) (hg : g = gate h r c) (hp : y ≠ 0 → p = tap h w 0 (before r) c)
    (ho : o = tap h w 1 r c) (hn : y ≠ T - 1 → n = tap h w 2 (after r) c) (hd : d = b (ix1 c)) :
    g * ((if y = 0 then 0 else p) + o + (if y = T - 1 then 0 else n) + d) = conv T h w b r c := by
  subst hy hg ho hd
  unfold conv
  congr 3
  · congr 1
    split
    · rfl
    · next h0 => exact hp h0
  · split
    · rfl
    · next h0 => exact hn h0

/-- A product of three read at equal places. -/
theorem tap_congr {h : FVec Ideal ⟨2, ![6144, 6144]⟩ .bf16} {w : FVec Ideal ⟨2, ![3, 2048]⟩ .f32} {k : Fin 3} {r : Fin 6144} {c : Fin 2048} {x y z : EReal}
    (hx : x = h (ix2 r (⟨2048 + c.val, by omega⟩ : Fin 6144))) (hy : y = h (ix2 r (⟨4096 + c.val, by omega⟩ : Fin 6144))) (hz : z = w (ix2 k c)) :
    x * y * z = tap h w k r c := by
  rw [hx, hy, hz]; rfl

/-- A selection by a comparison of two words that hold small numbers. -/
theorem select_eq (r k : ℕ) (hr : r < 2 ^ 32) (hk : k < 2 ^ 32) (a b : EReal) :
    Scalar.select (IntOp.cmpi .eq (BitVec.ofNat 32 r) (BitVec.ofNat 32 k)) a b = if r = k then a else b := by
  have e : (BitVec.ofNat 32 r = BitVec.ofNat 32 k) ↔ r = k := by
    rw [← BitVec.toNat_inj]; simp only [BitVec.toNat_ofNat, Nat.mod_eq_of_lt hr, Nat.mod_eq_of_lt hk]
  have e' : (BitVec.ofNat 32 r == BitVec.ofNat 32 k) = decide (r = k) := by
    rw [Bool.eq_iff_iff, beq_iff_eq, decide_eq_true_iff]; exact e
  by_cases h : r = k <;> simp [Scalar.select, IntOp.cmpi, e', h]

/-- A zero-padded value times a weight: the product where the pad holds a value, and zero elsewhere. -/
theorem pad_mul {P Q : Prop} [Decidable P] [Decidable Q] (h : P ↔ ¬ Q) (z : P → EReal) (w : EReal) {a : EReal} (ht : ∀ p, z p = a) :
    (if p : P then z p else FloatOps.sitofp (F := Ideal) (w := 32) .f32 0#32) * w = if Q then 0 else a * w := by
  have z0 : FloatOps.sitofp (F := Ideal) (w := 32) .f32 0#32 = (0 : EReal) := by simp [FloatOps.sitofp]
  by_cases q : Q
  · rw [dif_neg (fun p => h.mp p q), if_pos q, z0, zero_mul]
  · rw [dif_pos (h.mpr q), if_neg q, ht]

end Cert.GatedConv

end
-- ==== Proof.ConvSample.lean ====
/- The gated convolution of the sample rows: two sequences of 1024 rows. -/
module

public import proofs.«01_k».proof.Defs
public import proofs.«01_k».proof.Proof.Gen.Kernel15Ideal.Value
public import proofs.«01_k».proof.Proof.Gen.Reference15Ideal.Run
public import proofs.«01_k».proof.Proof.Conv
public import Idealize.ShloMosaic.Lib.Claim

@[expose] public section

set_option maxRecDepth 16384

noncomputable section

namespace Cert.ConvSample

open Idealize.ShloMosaic Idealize.ShloMosaic.TcCoe Idealize.SL.Sem Cert.GatedConv
open Idealize.ShloMosaic.Pipeline (Dat)

/-- The array row that an output row is about. -/
def row (r : Fin 2048) : Fin 6144 := ⟨4096 + r.val, by omega⟩

section
open Cert.Reference15Ideal Cert.Reference15Ideal.Gen

/-- The product of the two factors, sequence by sequence. -/
def prodT (h : FVec Ideal S6144x6144 .bf16) : FVec Ideal S2x1024x2048 .f32 := mulf (extractStridedSlice S2x1024x2048 ![0, 0, 2048] (shapeCast _ (extractStridedSlice S2048x6144 ![4096, 0] (extf .f32 h bitsLt_bf16_f32) slices_S6144x6144_S2048x6144_4096_0) shapeCasts_S2048x6144_S2x1024x6144) slices_S2x1024x6144_S2x1024x2048_0_0_2048) (extractStridedSlice S2x1024x2048 ![0, 0, 4096] (shapeCast _ (extractStridedSlice S2048x6144 ![4096, 0] (extf .f32 h bitsLt_bf16_f32) slices_S6144x6144_S2048x6144_4096_0) shapeCasts_S2048x6144_S2x1024x6144) slices_S2x1024x6144_S2x1024x2048_0_0_4096)

/-- The convolved and gated rows. -/
def outT (h : FVec Ideal S6144x6144 .bf16) (w : FVec Ideal S3x2048 .f32) (b : FVec Ideal S2048 .f32) (z : FVec Ideal S2x1024x2048 .f32) : FVec Ideal S2048x2048 .bf16 :=
  truncf .bf16 (shapeCast _ (mulf (extractStridedSlice S2x1024x2048 ![0, 0, 0] (shapeCast _ (extractStridedSlice S2048x6144 ![4096, 0] (extf .f32 h bitsLt_bf16_f32) slices_S6144x6144_S2048x6144_4096_0) shapeCasts_S2048x6144_S2x1024x6144) slices_S2x1024x6144_S2x1024x2048_0_0_0) (addf (addf (addf (mulf (extractStridedSlice S2x1024x2048 ![0, 0, 0] (pad S2x1026x2048 ![0, 1, 0] ![0, 1, 0] ![0, 0, 0] z (sitofp .f32 (constantI S_ 32 0#32)) pads_S2x1024x2048_S2x1026x2048_000_110_000 h_S_) slices_S2x1026x2048_S2x1024x2048_0_0_0) (broadcastInDim S2x1024x2048 ![0, 1, 2] bcast_S1x1x2048_S2x1024x2048_0_1_2 (broadcastInDim S1x1x2048 ![2] bcast_S2048_S1x1x2048_2 (shapeCast _ (extractStridedSlice S1x2048 ![0, 0] w slices_S3x2048_S1x2048_0_0) shapeCasts_S1x2048_S2048)))) (mulf (extractStridedSlice S2x1024x2048 ![0, 1, 0] (pad S2x1026x2048 ![0, 1, 0] ![0, 1, 0] ![0, 0, 0] z (sitofp .f32 (constantI S_ 32 0#32)) pads_S2x1024x2048_S2x1026x2048_000_110_000 h_S_) slices_S2x1026x2048_S2x1024x2048_0_1_0) (broadcastInDim S2x1024x2048 ![0, 1, 2] bcast_S1x1x2048_S2x1024x2048_0_1_2 (broadcastInDim S1x1x2048 ![2] bcast_S2048_S1x1x2048_2 (shapeCast _ (extractStridedSlice S1x2048 ![1, 0] w slices_S3x2048_S1x2048_1_0) shapeCasts_S1x2048_S2048))))) (mulf (extractStridedSlice S2x1024x2048 ![0, 2, 0] (pad S2x1026x2048 ![0, 1, 0] ![0, 1, 0] ![0, 0, 0] z (sitofp .f32 (constantI S_ 32 0#32)) pads_S2x1024x2048_S2x1026x2048_000_110_000 h_S_) slices_S2x1026x2048_S2x1024x2048_0_2_0) (broadcastInDim S2x1024x2048 ![0, 1, 2] bcast_S1x1x2048_S2x1024x2048_0_1_2 (broadcastInDim S1x1x2048 ![2] bcast_S2048_S1x1x2048_2 (shapeCast _ (extractStridedSlice S1x2048 ![2, 0] w slices_S3x2048_S1x2048_2_0) shapeCasts_S1x2048_S2048))))) (broadcastInDim S2x1024x2048 ![0, 1, 2] bcast_S1x1x2048_S2x1024x2048_0_1_2 (broadcastInDim S1x1x2048 ![2] bcast_S2048_S1x1x2048_2 b)))) shapeCasts_S2x1024x2048_S2048x2048) bitsLt_bf16_f32

theorem prodT_eq (h : FVec Ideal S6144x6144 .bf16) (q : Fin 2) (t : Fin 1024) (j : Fin 2048) (r : Fin 6144) (hr : r.val = 4096 + (q.val * 1024 + t.val)) :
    prodT h (ix3 q t j) = prod h r j := by
  have hl : 4096 + (q.val * 1024 + t.val) < 6144 := by clear hr; omega
  obtain rfl : r = ⟨_, hl⟩ := Fin.ext hr
  pointwise [prodT, prod]

/-- The reference's array, element by element. -/
theorem ref_eq (h : FVec Ideal S6144x6144 .bf16) (w : FVec Ideal S3x2048 .f32) (b : FVec Ideal S2048 .f32) :
    outT h w b (prodT h) = fun x : S2048x2048.Idx => conv 1024 h w b (row (x 0)) (x 1) := by
  funext x
  have hx : (x 0).val < 2048 := (x 0).isLt
  have hv : (row (x 0)).val = 4096 + (x 0).val := rfl
  have hb : (before (row (x 0))).val = ((row (x 0)).val + 6143) % 6144 := rfl
  have ha : (after (row (x 0))).val = ((row (x 0)).val + 1) % 6144 := rfl
  pointwise [outT]
  unfold conv
  refine congrArg₂ (· * ·) rfl (congrArg₂ (· + ·) (congrArg₂ (· + ·) (congrArg₂ (· + ·) ?_ ?_) ?_) rfl)
  · refine (pad_mul (Q := (row (x 0)).val % 1024 = 0) (a := prod h (before (row (x 0))) (x 1)) ?_ _ _ ?_).trans rfl
    · omega
    · exact fun p => prodT_eq h _ _ _ (before (row (x 0))) (by simp only []; omega)
  · refine (pad_mul (Q := False) (a := prod h (row (x 0)) (x 1)) ?_ _ _ ?_).trans (if_neg not_false)
    · exact iff_of_true (by omega) not_false
    · exact fun p => prodT_eq h _ _ _ (row (x 0)) (by simp only []; omega)
  · refine (pad_mul (Q := (row (x 0)).val % 1024 = 1024 - 1) (a := prod h (after (row (x 0))) (x 1)) ?_ _ _ ?_).trans rfl
    · omega
    · exact fun p => prodT_eq h _ _ _ (after (row (x 0))) (by simp only []; omega)

end

section
open Cert.Kernel15Ideal Cert.Kernel15Ideal.Gen
variable (m : (ℓ : Loc nD τ sig) → Buf (Elt Ideal) ℓ) (c : Dev nD)

/-- Which block of each array a grid point works on: one sequence and a quarter of the channels. -/
theorem idx : ∀ t : Fin cfg0.N,
    (win0_0.index t 0 = 4 + t.val / 4 ∧ win0_0.index t 1 = t.val % 4) ∧ (win0_1.index t 0 = 4 + t.val / 4 ∧ win0_1.index t 1 = 4 + t.val % 4)
    ∧ (win0_2.index t 0 = 4 + t.val / 4 ∧ win0_2.index t 1 = 8 + t.val % 4) ∧ (win0_3.index t 0 = 0 ∧ win0_3.index t 1 = t.val % 4)
    ∧ (win0_4.index t 0 = 0 ∧ win0_4.index t 1 = t.val % 4) ∧ (win0_5.index t 0 = t.val / 4 ∧ win0_5.index t 1 = t.val % 4) :=
  (by decide +kernel : ∀ t : Fin grid0.N, _)

theorem lt (t : Fin cfg0.N) : t.val < 8 := t.isLt

/-- What a grid point stores, of what it loads. -/
theorem pay (u v : Vec Ideal S1024x512 .bf16) (w₀ w₁ w₂ b : Vec Ideal S1x512 .f32) (g : Vec Ideal S1024x512 .bf16) (r : Fin 1024) (j : Fin 512) :
    k0_pay1 (F := Ideal) u v w₀ w₁ w₂ b g (ix2 r j : S1024x512.Idx) = g (ix2 r j : S1024x512.Idx) *
      ((if r.val = 0 then 0 else u (ix2 (⟨(r.val + 1024 - 1) % 1024, by omega⟩ : Fin 1024) j : S1024x512.Idx) * v (ix2 (⟨(r.val + 1024 - 1) % 1024, by omega⟩ : Fin 1024) j : S1024x512.Idx) * w₀ (ix2 (0 : Fin 1) j : S1x512.Idx))
        + u (ix2 r j : S1024x512.Idx) * v (ix2 r j : S1024x512.Idx) * w₁ (ix2 (0 : Fin 1) j : S1x512.Idx)
        + (if r.val = 1024 - 1 then 0 else u (ix2 (⟨(r.val + 1024 - 1023) % 1024, by omega⟩ : Fin 1024) j : S1024x512.Idx) * v (ix2 (⟨(r.val + 1024 - 1023) % 1024, by omega⟩ : Fin 1024) j : S1024x512.Idx) * w₂ (ix2 (0 : Fin 1) j : S1x512.Idx))
        + b (ix2 (0 : Fin 1) j : S1x512.Idx)) := by
  have h₀ := fun p : EReal => select_eq r.val 0 (by omega) (by omega) 0 p
  have h₁ := fun p : EReal => select_eq r.val 1023 (by omega) (by omega) 0 p
  rw [← h₀, ← h₁]
  pointwise [k0_pay1]

/-- What a grid point sees of the gate and of the two factors. -/
theorem gate_block (t : Fin cfg0.N) (r : Fin 1024) (k : Fin 512) (R : Fin 6144) (K : Fin 2048) (hR : R.val = (4 + t.val / 4) * 1024 + r.val) (hK : K.val = t.val % 4 * 512 + k.val) :
    iblk m c 0 t (ix2 r k : S1024x512.Idx) = m ((c.tc : Thread nD τ).loc main_arg0) (ix2 R (⟨K.val, by omega⟩ : Fin 6144)) := by
  blk_ext! [iblk, V, idx t]

theorem left_block (t : Fin cfg0.N) (r : Fin 1024) (k : Fin 512) (R : Fin 6144) (K : Fin 2048) (hR : R.val = (4 + t.val / 4) * 1024 + r.val) (hK : K.val = t.val % 4 * 512 + k.val) :
    iblk m c 1 t (ix2 r k : S1024x512.Idx) = m ((c.tc : Thread nD τ).loc main_arg0) (ix2 R (⟨2048 + K.val, by omega⟩ : Fin 6144)) := by
  blk_ext! [iblk, V, idx t]

theorem right_block (t : Fin cfg0.N) (r : Fin 1024) (k : Fin 512) (R : Fin 6144) (K : Fin 2048) (hR : R.val = (4 + t.val / 4) * 1024 + r.val) (hK : K.val = t.val % 4 * 512 + k.val) :
    iblk m c 2 t (ix2 r k : S1024x512.Idx) = m ((c.tc : Thread nD τ).loc main_arg0) (ix2 R (⟨4096 + K.val, by omega⟩ : Fin 6144)) := by
  blk_ext! [iblk, V, idx t]

/-- And of the weights and the bias. -/
theorem weight_block (t : Fin cfg0.N) (a : Fin 3) (k : Fin 512) (K : Fin 2048) (hK : K.val = t.val % 4 * 512 + k.val) :
    iblk m c 3 t (ix2 a k : S3x512.Idx) = m ((c.tc : Thread nD τ).loc main_arg1) (ix2 a K) := by
  blk_ext! [iblk, V, idx t]

theorem bias_block (t : Fin cfg0.N) (k : Fin 512) (K : Fin 2048) (hK : K.val = t.val % 4 * 512 + k.val) :
    iblk m c 4 t (ix2 (0 : Fin 1) k : S1x512.Idx) = m ((c.tc : Thread nD τ).loc main_arg2) (ix1 K) := by
  have hl : t.val % 4 * 512 + k.val < 2048 := by clear hK; omega
  obtain rfl : K = ⟨_, hl⟩ := Fin.ext hK
  blk_ext! [iblk, V, idx t]

/-- A row of the loaded weights. -/
theorem ld_row (x : Vec Ideal S3x512 .f32) (a : Fin 3) (k : Fin 512) (inb : ∀ d, (![a.val, 0] : Fin 2 → ℕ) d + (![1, 512] : Fin 2 → ℕ) d ≤ S3x512.size d) :
    View.ld x (Rect.unit ![a.val, 0] ![1, 512] inb) (ix2 (0 : Fin 1) k) = x (ix2 a k) := by
  rw [View.ld_apply]
  refine congrArg x (funext fun d => Fin.ext ?_)
  match d with
  | 0 => simp
  | 1 => simp

/-- The kernel's array after the run. -/
theorem final : (dats m 0 c).arrAt 5 cfg0.N = fun i : S2048x2048.Idx =>
    conv 1024 (m ((c.tc : Thread nD τ).loc main_arg0)) (m ((c.tc : Thread nD τ).loc main_arg1)) (m ((c.tc : Thread nD τ).loc main_arg2)) (row (i 0)) (i 1) := by
  refine (dats m 0 c).arrAt_eq_of_covers 5 _ (by decide +kernel) fun t hf y => ?_
  blk_simp
  rw [after0_5]
  have e : ((win0_5.rect t).emb y 0 : ℕ) = win0_5.index t 0 * 1024 + (y 0).val := win0_5.rect_emb_val t y 0
  have e' : ((win0_5.rect t).emb y 1 : ℕ) = win0_5.index t 1 * 512 + (y 1).val := win0_5.rect_emb_val t y 1
  rw [(idx t).2.2.2.2.2.1] at e
  rw [(idx t).2.2.2.2.2.2] at e'
  have hy : (ix2 (y 0 : Fin 1024) (y 1 : Fin 512) : S1024x512.Idx) = y := funext fun a => by fin_cases a <;> rfl
  have y0 : (y 0).val < 1024 := (y 0).isLt
  have ht := lt t
  generalize hr : row (((View.whole main_v1).slice (win0_5.rect t)).emb y 0) = r
  have hR : r.val = (4 + t.val / 4) * 1024 + (y 0).val := by
    have : r.val = 4096 + ((win0_5.rect t).emb y 0).val := by rw [← hr]; rfl
    omega
  have hb : (before r).val = (r.val + 6143) % 6144 := rfl
  have ha : (after r).val = (r.val + 1) % 6144 := rfl
  frame_out
  refine (congrArg (k0_pay1 _ _ _ _ _ _ _) hy.symm).trans ((pay _ _ _ _ _ _ _ _ _).trans
    (conv_eq (y 0).val (by omega) ?_ (fun h0 => ?_) ?_ (fun h0 => ?_) ?_))
  · exact gate_block m c t _ _ r _ hR e'
  · exact tap_congr (left_block m c t _ _ _ _ (by simp only []; omega) e') (right_block m c t _ _ _ _ (by simp only []; omega) e') ((ld_row _ 0 _ _).trans (weight_block m c t 0 _ _ e'))
  · exact tap_congr (left_block m c t _ _ r _ hR e') (right_block m c t _ _ r _ hR e') ((ld_row _ 1 _ _).trans (weight_block m c t 1 _ _ e'))
  · exact tap_congr (left_block m c t _ _ _ _ (by simp only []; omega) e') (right_block m c t _ _ _ _ (by simp only []; omega) e') ((ld_row _ 2 _ _).trans (weight_block m c t 2 _ _ e'))
  · exact bias_block m c t _ _ e'

end

/-- The kernel's array is the reference's. -/
theorem equal : Cert.algebraic_Kernel15Ideal_Reference15Ideal := by
  pair_intro
  · run_from Cert.Kernel15Ideal.Value.run_blocks m g
  · refine (θ_run _ _ _).mono (fun r h c => ⟨(h c).1.trans ?_, (h c).2⟩) (Cert.Reference15Ideal.Value.run m' g')
    have e := ref_eq (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg2))
    refine Eq.trans (id e) ?_
    obtain ⟨a0, a1, a2⟩ := hagree c
    rw [a0, a1, a2]
    exact (final m c).symm

end Cert.ConvSample

end
-- ==== Proof.ConvPrompt.lean ====
/- The gated convolution of the prompt rows: sixteen sequences of 256 rows. -/
module

public import proofs.«01_k».proof.Defs
public import proofs.«01_k».proof.Proof.Gen.Kernel14Ideal.Value
public import proofs.«01_k».proof.Proof.Gen.Reference14Ideal.Run
public import proofs.«01_k».proof.Proof.Conv
public import Idealize.ShloMosaic.Lib.Claim

@[expose] public section

set_option maxRecDepth 16384

noncomputable section

namespace Cert.ConvPrompt

open Idealize.ShloMosaic Idealize.ShloMosaic.TcCoe Idealize.SL.Sem Cert.GatedConv
open Idealize.ShloMosaic.Pipeline (Dat)

/-- The array row that an output row is about. -/
def row (r : Fin 4096) : Fin 6144 := ⟨r.val, by omega⟩

section
open Cert.Reference14Ideal Cert.Reference14Ideal.Gen

/-- The product of the two factors, sequence by sequence. -/
def prodT (h : FVec Ideal S6144x6144 .bf16) : FVec Ideal S16x256x2048 .f32 := mulf (extractStridedSlice S16x256x2048 ![0, 0, 2048] (shapeCast _ (extractStridedSlice S4096x6144 ![0, 0] (extf .f32 h bitsLt_bf16_f32) slices_S6144x6144_S4096x6144_0_0) shapeCasts_S4096x6144_S16x256x6144) slices_S16x256x6144_S16x256x2048_0_0_2048) (extractStridedSlice S16x256x2048 ![0, 0, 4096] (shapeCast _ (extractStridedSlice S4096x6144 ![0, 0] (extf .f32 h bitsLt_bf16_f32) slices_S6144x6144_S4096x6144_0_0) shapeCasts_S4096x6144_S16x256x6144) slices_S16x256x6144_S16x256x2048_0_0_4096)

/-- The convolved and gated rows. -/
def outT (h : FVec Ideal S6144x6144 .bf16) (w : FVec Ideal S3x2048 .f32) (b : FVec Ideal S2048 .f32) (z : FVec Ideal S16x256x2048 .f32) : FVec Ideal S4096x2048 .bf16 :=
  truncf .bf16 (shapeCast _ (mulf (extractStridedSlice S16x256x2048 ![0, 0, 0] (shapeCast _ (extractStridedSlice S4096x6144 ![0, 0] (extf .f32 h bitsLt_bf16_f32) slices_S6144x6144_S4096x6144_0_0) shapeCasts_S4096x6144_S16x256x6144) slices_S16x256x6144_S16x256x2048_0_0_0) (addf (addf (addf (mulf (extractStridedSlice S16x256x2048 ![0, 0, 0] (pad S16x258x2048 ![0, 1, 0] ![0, 1, 0] ![0, 0, 0] z (sitofp .f32 (constantI S_ 32 0#32)) pads_S16x256x2048_S16x258x2048_000_110_000 h_S_) slices_S16x258x2048_S16x256x2048_0_0_0) (broadcastInDim S16x256x2048 ![0, 1, 2] bcast_S1x1x2048_S16x256x2048_0_1_2 (broadcastInDim S1x1x2048 ![2] bcast_S2048_S1x1x2048_2 (shapeCast _ (extractStridedSlice S1x2048 ![0, 0] w slices_S3x2048_S1x2048_0_0) shapeCasts_S1x2048_S2048)))) (mulf (extractStridedSlice S16x256x2048 ![0, 1, 0] (pad S16x258x2048 ![0, 1, 0] ![0, 1, 0] ![0, 0, 0] z (sitofp .f32 (constantI S_ 32 0#32)) pads_S16x256x2048_S16x258x2048_000_110_000 h_S_) slices_S16x258x2048_S16x256x2048_0_1_0) (broadcastInDim S16x256x2048 ![0, 1, 2] bcast_S1x1x2048_S16x256x2048_0_1_2 (broadcastInDim S1x1x2048 ![2] bcast_S2048_S1x1x2048_2 (shapeCast _ (extractStridedSlice S1x2048 ![1, 0] w slices_S3x2048_S1x2048_1_0) shapeCasts_S1x2048_S2048))))) (mulf (extractStridedSlice S16x256x2048 ![0, 2, 0] (pad S16x258x2048 ![0, 1, 0] ![0, 1, 0] ![0, 0, 0] z (sitofp .f32 (constantI S_ 32 0#32)) pads_S16x256x2048_S16x258x2048_000_110_000 h_S_) slices_S16x258x2048_S16x256x2048_0_2_0) (broadcastInDim S16x256x2048 ![0, 1, 2] bcast_S1x1x2048_S16x256x2048_0_1_2 (broadcastInDim S1x1x2048 ![2] bcast_S2048_S1x1x2048_2 (shapeCast _ (extractStridedSlice S1x2048 ![2, 0] w slices_S3x2048_S1x2048_2_0) shapeCasts_S1x2048_S2048))))) (broadcastInDim S16x256x2048 ![0, 1, 2] bcast_S1x1x2048_S16x256x2048_0_1_2 (broadcastInDim S1x1x2048 ![2] bcast_S2048_S1x1x2048_2 b)))) shapeCasts_S16x256x2048_S4096x2048) bitsLt_bf16_f32

theorem prodT_eq (h : FVec Ideal S6144x6144 .bf16) (q : Fin 16) (t : Fin 256) (j : Fin 2048) (r : Fin 6144) (hr : r.val = (q.val * 256 + t.val)) :
    prodT h (ix3 q t j) = prod h r j := by
  have hl : (q.val * 256 + t.val) < 6144 := by clear hr; omega
  obtain rfl : r = ⟨_, hl⟩ := Fin.ext hr
  pointwise [prodT, prod]

/-- The reference's array, element by element. -/
theorem ref_eq (h : FVec Ideal S6144x6144 .bf16) (w : FVec Ideal S3x2048 .f32) (b : FVec Ideal S2048 .f32) :
    outT h w b (prodT h) = fun x : S4096x2048.Idx => conv 256 h w b (row (x 0)) (x 1) := by
  funext x
  have hx : (x 0).val < 4096 := (x 0).isLt
  have hv : (row (x 0)).val = (x 0).val := rfl
  have hb : (before (row (x 0))).val = ((row (x 0)).val + 6143) % 6144 := rfl
  have ha : (after (row (x 0))).val = ((row (x 0)).val + 1) % 6144 := rfl
  pointwise [outT]
  unfold conv
  refine congrArg₂ (· * ·) rfl (congrArg₂ (· + ·) (congrArg₂ (· + ·) (congrArg₂ (· + ·) ?_ ?_) ?_) rfl)
  · refine (pad_mul (Q := (row (x 0)).val % 256 = 0) (a := prod h (before (row (x 0))) (x 1)) ?_ _ _ ?_).trans rfl
    · omega
    · exact fun p => prodT_eq h _ _ _ (before (row (x 0))) (by simp only []; omega)
  · refine (pad_mul (Q := False) (a := prod h (row (x 0)) (x 1)) ?_ _ _ ?_).trans (if_neg not_false)
    · exact iff_of_true (by omega) not_false
    · exact fun p => prodT_eq h _ _ _ (row (x 0)) (by simp only []; omega)
  · refine (pad_mul (Q := (row (x 0)).val % 256 = 256 - 1) (a := prod h (after (row (x 0))) (x 1)) ?_ _ _ ?_).trans rfl
    · omega
    · exact fun p => prodT_eq h _ _ _ (after (row (x 0))) (by simp only []; omega)

end

section
open Cert.Kernel14Ideal Cert.Kernel14Ideal.Gen
variable (m : (ℓ : Loc nD τ sig) → Buf (Elt Ideal) ℓ) (c : Dev nD)

/-- Which block of each array a grid point works on: one sequence and a quarter of the channels. -/
theorem idx : ∀ t : Fin cfg0.N,
    (win0_0.index t 0 = 0 + t.val / 4 ∧ win0_0.index t 1 = t.val % 4) ∧ (win0_1.index t 0 = 0 + t.val / 4 ∧ win0_1.index t 1 = 4 + t.val % 4)
    ∧ (win0_2.index t 0 = 0 + t.val / 4 ∧ win0_2.index t 1 = 8 + t.val % 4) ∧ (win0_3.index t 0 = 0 ∧ win0_3.index t 1 = t.val % 4)
    ∧ (win0_4.index t 0 = 0 ∧ win0_4.index t 1 = t.val % 4) ∧ (win0_5.index t 0 = t.val / 4 ∧ win0_5.index t 1 = t.val % 4) :=
  (by decide +kernel : ∀ t : Fin grid0.N, _)

theorem lt (t : Fin cfg0.N) : t.val < 64 := t.isLt

/-- What a grid point stores, of what it loads. -/
theorem pay (u v : Vec Ideal S256x512 .bf16) (w₀ w₁ w₂ b : Vec Ideal S1x512 .f32) (g : Vec Ideal S256x512 .bf16) (r : Fin 256) (j : Fin 512) :
    k0_pay1 (F := Ideal) u v w₀ w₁ w₂ b g (ix2 r j : S256x512.Idx) = g (ix2 r j : S256x512.Idx) *
      ((if r.val = 0 then 0 else u (ix2 (⟨(r.val + 256 - 1) % 256, by omega⟩ : Fin 256) j : S256x512.Idx) * v (ix2 (⟨(r.val + 256 - 1) % 256, by omega⟩ : Fin 256) j : S256x512.Idx) * w₀ (ix2 (0 : Fin 1) j : S1x512.Idx))
        + u (ix2 r j : S256x512.Idx) * v (ix2 r j : S256x512.Idx) * w₁ (ix2 (0 : Fin 1) j : S1x512.Idx)
        + (if r.val = 256 - 1 then 0 else u (ix2 (⟨(r.val + 256 - 255) % 256, by omega⟩ : Fin 256) j : S256x512.Idx) * v (ix2 (⟨(r.val + 256 - 255) % 256, by omega⟩ : Fin 256) j : S256x512.Idx) * w₂ (ix2 (0 : Fin 1) j : S1x512.Idx))
        + b (ix2 (0 : Fin 1) j : S1x512.Idx)) := by
  have h₀ := fun p : EReal => select_eq r.val 0 (by omega) (by omega) 0 p
  have h₁ := fun p : EReal => select_eq r.val 255 (by omega) (by omega) 0 p
  rw [← h₀, ← h₁]
  pointwise [k0_pay1]

/-- What a grid point sees of the gate and of the two factors. -/
theorem gate_block (t : Fin cfg0.N) (r : Fin 256) (k : Fin 512) (R : Fin 6144) (K : Fin 2048) (hR : R.val = (0 + t.val / 4) * 256 + r.val) (hK : K.val = t.val % 4 * 512 + k.val) :
    iblk m c 0 t (ix2 r k : S256x512.Idx) = m ((c.tc : Thread nD τ).loc main_arg0) (ix2 R (⟨K.val, by omega⟩ : Fin 6144)) := by
  blk_ext! [iblk, V, idx t]

theorem left_block (t : Fin cfg0.N) (r : Fin 256) (k : Fin 512) (R : Fin 6144) (K : Fin 2048) (hR : R.val = (0 + t.val / 4) * 256 + r.val) (hK : K.val = t.val % 4 * 512 + k.val) :
    iblk m c 1 t (ix2 r k : S256x512.Idx) = m ((c.tc : Thread nD τ).loc main_arg0) (ix2 R (⟨2048 + K.val, by omega⟩ : Fin 6144)) := by
  blk_ext! [iblk, V, idx t]

theorem right_block (t : Fin cfg0.N) (r : Fin 256) (k : Fin 512) (R : Fin 6144) (K : Fin 2048) (hR : R.val = (0 + t.val / 4) * 256 + r.val) (hK : K.val = t.val % 4 * 512 + k.val) :
    iblk m c 2 t (ix2 r k : S256x512.Idx) = m ((c.tc : Thread nD τ).loc main_arg0) (ix2 R (⟨4096 + K.val, by omega⟩ : Fin 6144)) := by
  blk_ext! [iblk, V, idx t]

/-- And of the weights and the bias. -/
theorem weight_block (t : Fin cfg0.N) (a : Fin 3) (k : Fin 512) (K : Fin 2048) (hK : K.val = t.val % 4 * 512 + k.val) :
    iblk m c 3 t (ix2 a k : S3x512.Idx) = m ((c.tc : Thread nD τ).loc main_arg1) (ix2 a K) := by
  blk_ext! [iblk, V, idx t]

theorem bias_block (t : Fin cfg0.N) (k : Fin 512) (K : Fin 2048) (hK : K.val = t.val % 4 * 512 + k.val) :
    iblk m c 4 t (ix2 (0 : Fin 1) k : S1x512.Idx) = m ((c.tc : Thread nD τ).loc main_arg2) (ix1 K) := by
  have hl : t.val % 4 * 512 + k.val < 2048 := by clear hK; omega
  obtain rfl : K = ⟨_, hl⟩ := Fin.ext hK
  blk_ext! [iblk, V, idx t]

/-- A row of the loaded weights. -/
theorem ld_row (x : Vec Ideal S3x512 .f32) (a : Fin 3) (k : Fin 512) (inb : ∀ d, (![a.val, 0] : Fin 2 → ℕ) d + (![1, 512] : Fin 2 → ℕ) d ≤ S3x512.size d) :
    View.ld x (Rect.unit ![a.val, 0] ![1, 512] inb) (ix2 (0 : Fin 1) k) = x (ix2 a k) := by
  rw [View.ld_apply]
  refine congrArg x (funext fun d => Fin.ext ?_)
  match d with
  | 0 => simp
  | 1 => simp

/-- The kernel's array after the run. -/
theorem final : (dats m 0 c).arrAt 5 cfg0.N = fun i : S4096x2048.Idx =>
    conv 256 (m ((c.tc : Thread nD τ).loc main_arg0)) (m ((c.tc : Thread nD τ).loc main_arg1)) (m ((c.tc : Thread nD τ).loc main_arg2)) (row (i 0)) (i 1) := by
  refine (dats m 0 c).arrAt_eq_of_covers 5 _ (by decide +kernel) fun t hf y => ?_
  blk_simp
  rw [after0_5]
  have e : ((win0_5.rect t).emb y 0 : ℕ) = win0_5.index t 0 * 256 + (y 0).val := win0_5.rect_emb_val t y 0
  have e' : ((win0_5.rect t).emb y 1 : ℕ) = win0_5.index t 1 * 512 + (y 1).val := win0_5.rect_emb_val t y 1
  rw [(idx t).2.2.2.2.2.1] at e
  rw [(idx t).2.2.2.2.2.2] at e'
  have hy : (ix2 (y 0 : Fin 256) (y 1 : Fin 512) : S256x512.Idx) = y := funext fun a => by fin_cases a <;> rfl
  have y0 : (y 0).val < 256 := (y 0).isLt
  have ht := lt t
  generalize hr : row (((View.whole main_v1).slice (win0_5.rect t)).emb y 0) = r
  have hR : r.val = (0 + t.val / 4) * 256 + (y 0).val := by
    have : r.val = ((win0_5.rect t).emb y 0).val := by rw [← hr]; rfl
    omega
  have hb : (before r).val = (r.val + 6143) % 6144 := rfl
  have ha : (after r).val = (r.val + 1) % 6144 := rfl
  frame_out
  refine (congrArg (k0_pay1 _ _ _ _ _ _ _) hy.symm).trans ((pay _ _ _ _ _ _ _ _ _).trans
    (conv_eq (y 0).val (by omega) ?_ (fun h0 => ?_) ?_ (fun h0 => ?_) ?_))
  · exact gate_block m c t _ _ r _ hR e'
  · exact tap_congr (left_block m c t _ _ _ _ (by simp only []; omega) e') (right_block m c t _ _ _ _ (by simp only []; omega) e') ((ld_row _ 0 _ _).trans (weight_block m c t 0 _ _ e'))
  · exact tap_congr (left_block m c t _ _ r _ hR e') (right_block m c t _ _ r _ hR e') ((ld_row _ 1 _ _).trans (weight_block m c t 1 _ _ e'))
  · exact tap_congr (left_block m c t _ _ _ _ (by simp only []; omega) e') (right_block m c t _ _ _ _ (by simp only []; omega) e') ((ld_row _ 2 _ _).trans (weight_block m c t 2 _ _ e'))
  · exact bias_block m c t _ _ e'

end

/-- The kernel's array is the reference's. -/
theorem equal : Cert.algebraic_Kernel14Ideal_Reference14Ideal := by
  pair_intro
  · run_from Cert.Kernel14Ideal.Value.run_blocks m g
  · refine (θ_run _ _ _).mono (fun r h c => ⟨(h c).1.trans ?_, (h c).2⟩) (Cert.Reference14Ideal.Value.run m' g')
    have e := ref_eq (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg2))
    refine Eq.trans (id e) ?_
    obtain ⟨a0, a1, a2⟩ := hagree c
    rw [a0, a1, a2]
    exact (final m c).symm

end Cert.ConvPrompt

end
-- ==== Proof.MlaSamplePre.lean ====
/- What the precondition says: every element the scores read is neither infinity. -/
module

public import proofs.«01_k».proof.Pre_finite_scores
public import proofs.«01_k».proof.Proof.MlaSampleSpec

@[expose] public section

set_option maxRecDepth 16384

noncomputable section

namespace Cert.MlaSample

open Idealize.ShloMosaic Cert.Softmax

/-- The shape facts the precondition states. -/
theorem preFacts : Cert.Pre_finite_scores.Facts where
  slices_S6144x3072_S2048x2048_4096_0 := by decide
  bitsLt_bf16_f32 := by decide
  bcast_S_S2048x2048 := by decide
  bcast_S_S2048x1024 := by decide
  slices_S6656x4096_S2560x2048_4096_0 := by decide
  bcast_S_S2560x2048 := by decide
  bcast_S_S2048x64 := by decide
  bcast_S_S2x256x64 := by decide

/-- Above −∞ and below +∞ is a real number. -/
theorem of_both {x : EReal} (h : IntOp.andi (BitVec.ofBool (decide (Ideal.ofBits .f32 0xFF800000#32 < x))) (BitVec.ofBool (decide (x < Ideal.ofBits .f32 0x7F800000#32))) = 1#1) :
    Fin' x := by
  rw [ofBits_neg_inf, ofBits_pos_inf] at h
  by_cases h₁ : ⊥ < x
  · by_cases h₂ : x < ⊤
    · exact fin'_of_lt h₁ h₂
    · simp [h₁, h₂, IntOp.andi] at h
  · simp [h₁, IntOp.andi] at h

variable [Cert.Pre_finite_scores.Facts]

theorem finite_of_pre (q : FVec Ideal ⟨2, ![6144, 3072]⟩ .bf16) (qr : FVec Ideal ⟨2, ![2048, 1024]⟩ .bf16) (kv : FVec Ideal ⟨2, ![6656, 4096]⟩ .bf16)
    (kr : FVec Ideal ⟨2, ![2048, 64]⟩ .bf16) (cr : FVec Ideal ⟨3, ![2, 256, 64]⟩ .f32)
    (h : (Cert.Pre_finite_scores.fn q qr kv kr cr).1 = (fun _ => 1#1) ∧ (Cert.Pre_finite_scores.fn q qr kv kr cr).2.1 = (fun _ => 1#1)
      ∧ (Cert.Pre_finite_scores.fn q qr kv kr cr).2.2.1 = (fun _ => 1#1) ∧ (Cert.Pre_finite_scores.fn q qr kv kr cr).2.2.2.1 = (fun _ => 1#1)
      ∧ (Cert.Pre_finite_scores.fn q qr kv kr cr).2.2.2.2 = (fun _ => 1#1)) : Finite q qr kv kr cr := by
  obtain ⟨h1, h2, h3, h4, h5⟩ := h
  refine ⟨fun r k => ?_, fun r k => ?_, fun r k => ?_, fun r k => ?_, fun b r k => ?_⟩
  · have := congrFun h1 (ix2 r k)
    dsimp only [Cert.Pre_finite_scores.fn, Cert.Pre_finite_scores.fn_part1] at this
    pointwise at this
    exact of_both this
  · have := congrFun h2 (ix2 r k)
    dsimp only [Cert.Pre_finite_scores.fn, Cert.Pre_finite_scores.fn_part1] at this
    pointwise at this
    exact of_both this
  · have := congrFun h3 (ix2 r k)
    dsimp only [Cert.Pre_finite_scores.fn, Cert.Pre_finite_scores.fn_part1] at this
    pointwise at this
    exact of_both this
  · have := congrFun h4 (ix2 r k)
    dsimp only [Cert.Pre_finite_scores.fn, Cert.Pre_finite_scores.fn_part1] at this
    pointwise at this
    exact of_both this
  · have := congrFun h5 (ix3 b r k)
    dsimp only [Cert.Pre_finite_scores.fn, Cert.Pre_finite_scores.fn_part1] at this
    pointwise at this
    exact of_both this

end Cert.MlaSample

end
-- ==== Proof.GqaPromptSpec.lean ====
/- The grouped attention of the prompt rows, one output element at a time: the scores of a query row against the 256 keys of
   its sequence, the head's sink after them, and the values the keys weigh; and what the precondition says about them. -/
module

public import proofs.«01_k».proof.Pre_finite_sink_scores
public import proofs.«01_k».proof.Proof.MlaSamplePre

@[expose] public section

set_option maxRecDepth 16384

noncomputable section

namespace Cert.GqaPrompt

open Idealize.ShloMosaic Cert.Softmax Cert.MlaSample

section
variable (q : FVec Ideal ⟨2, ![6144, 2048]⟩ .bf16) (kv : FVec Ideal ⟨2, ![6144, 1024]⟩ .f32) (sink : FVec Ideal ⟨1, ![32]⟩ .f32)

/-- The score of key `s` for the query of row `r`, head `h`. -/
def sc (r : Fin 4096) (h : Fin 32) (s : Fin 256) : EReal :=
  (∑ k : Fin 64, q (ix2 (⟨r.val, by omega⟩ : Fin 6144) (⟨h.val * 64 + k.val, by omega⟩ : Fin 2048))
    * kv (ix2 (⟨r.val / 256 * 256 + s.val, by omega⟩ : Fin 6144) (⟨h.val / 4 * 64 + k.val, by omega⟩ : Fin 1024))) * Ideal.ofBits .f32 0x3E000000#32

/-- The scores of row `r`, head `h`, the sink after the keys'. -/
def scs (r : Fin 4096) (h : Fin 32) (s : Fin 257) : EReal :=
  if hs : s.val < 256 then sc q kv r h ⟨s.val, hs⟩ else sink (ix1 h)

/-- One output element: row `r`, column `64 h + d`. -/
def out (r : Fin 4096) (col : Fin 2048) : EReal :=
  sinkRow (n := 256) (scs q kv sink r ⟨col.val / 64, by omega⟩)
    fun s => kv (ix2 (⟨r.val / 256 * 256 + s.val, by omega⟩ : Fin 6144) (⟨512 + (col.val / 256 * 64 + col.val % 64), by omega⟩ : Fin 1024))

/-- What the scores read is finite. -/
structure Finite : Prop where
  q : ∀ (r : Fin 4096) (k : Fin 2048), Fin' (q (ix2 (⟨r.val, by omega⟩ : Fin 6144) k))
  kv : ∀ (r : Fin 4096) (k : Fin 512), Fin' (kv (ix2 (⟨r.val, by omega⟩ : Fin 6144) (⟨k.val, by omega⟩ : Fin 1024)))
  sink : ∀ h : Fin 32, Fin' (sink (ix1 h))

/-- The scale is a real number. -/
theorem scale_fin : Fin' (Ideal.ofBits .f32 0x3E000000#32) := ⟨_, by simp [Ideal.ofBits, Ideal.ieee]; rfl⟩

variable {q kv sink}

theorem scs_fin (H : Finite q kv sink) (r : Fin 4096) (h : Fin 32) (s : Fin 257) : Fin' (scs q kv sink r h s) := by
  unfold scs
  split
  · exact (Fin'.sum _ fun k : Fin 64 => (H.q r _).mul (H.kv ⟨r.val / 256 * 256 + s.val, by omega⟩ ⟨h.val / 4 * 64 + k.val, by omega⟩)).mul scale_fin
  · exact H.sink h

end

/-- The shape facts the precondition states. -/
theorem preFacts : Cert.Pre_finite_sink_scores.Facts where
  slices_S6144x2048_S4096x2048_0_0 := by decide
  bitsLt_bf16_f32 := by decide
  bcast_S_S4096x2048 := by decide
  slices_S6144x1024_S4096x512_0_0 := by decide
  bcast_S_S4096x512 := by decide
  bcast_S_S32 := by decide

variable [Cert.Pre_finite_sink_scores.Facts]

theorem finite_of_pre (q : FVec Ideal ⟨2, ![6144, 2048]⟩ .bf16) (kv : FVec Ideal ⟨2, ![6144, 1024]⟩ .f32) (sink : FVec Ideal ⟨1, ![32]⟩ .f32)
    (h : (Cert.Pre_finite_sink_scores.fn q kv sink).1 = (fun _ => 1#1) ∧ (Cert.Pre_finite_sink_scores.fn q kv sink).2.1 = (fun _ => 1#1)
      ∧ (Cert.Pre_finite_sink_scores.fn q kv sink).2.2 = (fun _ => 1#1)) : Finite q kv sink := by
  obtain ⟨h1, h2, h3⟩ := h
  refine ⟨fun r k => ?_, fun r k => ?_, fun k => ?_⟩
  · have := congrFun h1 (ix2 r k)
    dsimp only [Cert.Pre_finite_sink_scores.fn] at this
    pointwise at this
    exact of_both this
  · have := congrFun h2 (ix2 r k)
    dsimp only [Cert.Pre_finite_sink_scores.fn] at this
    pointwise at this
    exact of_both this
  · have := congrFun h3 (ix1 k)
    dsimp only [Cert.Pre_finite_sink_scores.fn] at this
    pointwise at this
    exact of_both this

end Cert.GqaPrompt

end
-- ==== Proof.GqaPromptKernel.lean ====
/- The kernel's grouped attention array of the prompt rows, read one element at a time: each grid point writes one sequence's
   256 query rows, one head after another; four heads share their keys and values. -/
module

public import proofs.«01_k».proof.Proof.Gen.Kernel13Ideal.Value
public import proofs.«01_k».proof.Proof.GqaPromptSpec
public import proofs.«01_k».proof.Proof.MlaSampleKernel

@[expose] public section

set_option maxRecDepth 16384

noncomputable section

namespace Cert.GqaPrompt.Kern

open Cert.Kernel13Ideal Cert.Kernel13Ideal.Gen Idealize.ShloMosaic Idealize.ShloMosaic.TcCoe Idealize.SL.Sem
open Idealize.ShloMosaic.Pipeline (Dat)
open Cert.Softmax Cert.GqaPrompt
open Cert.MlaSample (ofBits_neg_inf)
open Cert.MlaSample.Kern (ld_cols)

/-- One head of one sequence: the chain that every head runs over its own columns. -/
def headOut {F : FTy → Type} [FloatOps F] (k v : Vec F S256x64 .f32) (q : Vec F S256x64 .bf16) (z : Elt F .f32) : FVec F S256x64 .bf16 :=
  k0_pay4 k v q z

theorem headOut_eq (k v : FVec Ideal S256x64 .f32) (q : FVec Ideal S256x64 .bf16) (z : EReal) (x : S256x64.Idx)
    (f : Fin 257 → EReal) (w : Fin 256 → EReal) (hf : ∀ i, Fin' (f i))
    (h : ∀ j : Fin 256, f j.castSucc = (∑ i : Fin 64, q (ix2 (x 0) i) * k (ix2 j i)) * Ideal.ofBits .f32 0x3E000000#32)
    (hz : f (Fin.last 256) = z) (g : ∀ j : Fin 256, w j = v (ix2 j (x 1))) :
    headOut (F := Ideal) k v q z x = sinkRow f w := by
  refine Eq.trans ?_ (sinkRow_eq f w hf _ z h hz)
  rw [funext g]
  pointwise [headOut, k0_pay4, k0_pay3, k0_pay2]
  rw [ofBits_neg_inf]

variable (m : (ℓ : Loc nD τ sig) → Buf (Elt Ideal) ℓ) (c : Dev nD)

/-- Which block of each array grid point `t` reads and writes. -/
theorem idx : ∀ t : Fin cfg0.N,
    (win0_0.index t 0 = 0) ∧ (win0_1.index t 0 = t.val ∧ win0_1.index t 1 = 0)
    ∧ (win0_2.index t 0 = t.val ∧ win0_2.index t 1 = 0) ∧ (win0_3.index t 0 = t.val ∧ win0_3.index t 1 = 1)
    ∧ (win0_4.index t 0 = t.val ∧ win0_4.index t 1 = 0) :=
  (by decide +kernel : ∀ t : Fin grid0.N, _)

theorem lt (t : Fin cfg0.N) : t.val < 16 := t.isLt

/-! What each input block holds, in the argument arrays' own indices. -/

theorem in0 (t : Fin cfg0.N) (h : Fin 32) :
    iblk m c 0 t (ix1 h) = m ((c.tc : Thread nD τ).loc main_arg2) (ix1 h) := by
  blk_ext! [iblk, V, idx t]

theorem in1 (t : Fin cfg0.N) (r : Fin 256) (k : Fin 2048) :
    iblk m c 1 t (ix2 r k) = m ((c.tc : Thread nD τ).loc main_arg0) (ix2 (⟨256 * t.val + r.val, by have := lt t; omega⟩ : Fin 6144) k) := by
  blk_ext! [iblk, V, idx t]

theorem in2 (t : Fin cfg0.N) (r : Fin 256) (k : Fin 512) :
    iblk m c 2 t (ix2 r k) = m ((c.tc : Thread nD τ).loc main_arg1) (ix2 (⟨256 * t.val + r.val, by have := lt t; omega⟩ : Fin 6144) (⟨k.val, by omega⟩ : Fin 1024)) := by
  blk_ext! [iblk, V, idx t]

theorem in3 (t : Fin cfg0.N) (r : Fin 256) (k : Fin 512) :
    iblk m c 3 t (ix2 r k) = m ((c.tc : Thread nD τ).loc main_arg1) (ix2 (⟨256 * t.val + r.val, by have := lt t; omega⟩ : Fin 6144) (⟨512 + k.val, by omega⟩ : Fin 1024)) := by
  blk_ext! [iblk, V, idx t]

/-- The sink a head loads is the one at its own number. -/
theorem ld_sink (t : Fin cfg0.N) (o : ℕ) (ho : o < 32) (inb : ∀ a, (![o] : Fin 1 → ℕ) a + (![1] : Fin 1 → ℕ) a ≤ S32.size a) (h) :
    View.ld (iblk m c 0 t) (Rect.unit ![o] ![1] inb) (Shape.Idx.first h) = m ((c.tc : Thread nD τ).loc main_arg2) (ix1 (⟨o, ho⟩ : Fin 32)) := by
  rw [View.ld_apply]
  refine Eq.trans (congrArg _ (funext fun a => Fin.ext ?_)) (in0 m c t _)
  match a with
  | 0 => simp [Shape.Idx.first]

/-- One output element over this memory's arguments. -/
abbrev outM (r : Fin 4096) (col : Fin 2048) : EReal :=
  out (m ((c.tc : Thread nD τ).loc main_arg0)) (m ((c.tc : Thread nD τ).loc main_arg1)) (m ((c.tc : Thread nD τ).loc main_arg2)) r col

/-- The rows and columns of the output block of a grid point. -/
theorem row_emb (t : Fin cfg0.N) (y : ((cfg0.win 4).xblock (cfg0.grid.coords t)).Idx) :
    ((((View.whole main_v0).slice (win0_4.rect t)).emb y 0 : Fin _) : ℕ) = 256 * t.val + (y 0).val := by
  have h : ((win0_4.rect t).emb y 0 : ℕ) = win0_4.index t 0 * 256 + (y 0).val := win0_4.rect_emb_val t y 0
  rw [(idx t).2.2.2.2.1] at h
  exact h.trans (by omega)

theorem col_emb (t : Fin cfg0.N) (y : ((cfg0.win 4).xblock (cfg0.grid.coords t)).Idx) :
    ((((View.whole main_v0).slice (win0_4.rect t)).emb y 1 : Fin _) : ℕ) = (y 1).val := by
  have h : ((win0_4.rect t).emb y 1 : ℕ) = win0_4.index t 1 * 2048 + (y 1).val := win0_4.rect_emb_val t y 1
  rw [(idx t).2.2.2.2.2] at h
  exact h.trans (by omega)

/-- What the head number `n` stores, with its columns from `o` on and its group's from `o'` on, is the output element of its
    row and column. -/
theorem head_block (H : Finite (m ((c.tc : Thread nD τ).loc main_arg0)) (m ((c.tc : Thread nD τ).loc main_arg1)) (m ((c.tc : Thread nD τ).loc main_arg2)))
    (t : Fin cfg0.N) (x : S256x64.Idx) (n o o' : ℕ) (ho : n * 64 = o) (ho' : n / 4 * 64 = o') (r : Fin 4096) (col : Fin 2048)
    (hr : r.val = 256 * t.val + (x 0).val) (hc : col.val = o + (x 1).val)
    (i₁ : ∀ a, (![0, o] : Fin 2 → ℕ) a + (![256, 64] : Fin 2 → ℕ) a ≤ S256x2048.size a) (i₂ : ∀ a, (![0, o'] : Fin 2 → ℕ) a + (![256, 64] : Fin 2 → ℕ) a ≤ S256x512.size a)
    (i₃ : ∀ a, (![n] : Fin 1 → ℕ) a + (![1] : Fin 1 → ℕ) a ≤ S32.size a) (h₁) :
    headOut (F := Ideal) (View.ld (iblk m c 2 t) (Rect.unit ![0, o'] ![256, 64] i₂)) (View.ld (iblk m c 3 t) (Rect.unit ![0, o'] ![256, 64] i₂))
      (View.ld (iblk m c 1 t) (Rect.unit ![0, o] ![256, 64] i₁)) (View.ld (iblk m c 0 t) (Rect.unit ![n] ![1] i₃) (Shape.Idx.first h₁)) x = outM m c r col := by
  have ht := lt t
  have hx0 : (x 0).val < 256 := (x 0).isLt
  have hx1 : (x 1).val < 64 := (x 1).isLt
  have hcol := col.isLt
  have hh : col.val / 64 = n := by omega
  have hg : col.val / 256 * 64 = o' := by omega
  have hm : col.val % 64 = (x 1).val := by omega
  have hd : r.val / 256 = t.val := by omega
  refine headOut_eq _ _ _ _ x _ _ (scs_fin H _ _) (fun j => ?_) ?_ (fun j => ?_)
  · unfold scs sc
    have hj : j.val < 256 := j.isLt
    have e : j.castSucc.val = j.val := rfl
    simp only [hj, e, dif_pos, hh, ho, ho', hd]
    refine congrArg (· * _) (Finset.sum_congr rfl fun k _ => congrArg₂ (· * ·) ?_ ?_)
    · exact Eq.trans (congrArg _ (by blk_ext)) ((ld_cols _ _ _ _).trans (in1 m c t _ _)).symm
    · exact Eq.trans (congrArg _ (by blk_ext)) ((ld_cols _ _ _ _).trans (in2 m c t _ _)).symm
  · unfold scs
    have hj : ¬ (Fin.last 256).val < 256 := by simp
    simp only [hj, dif_neg, not_false_eq_true, hh]
    exact (ld_sink m c t n (by omega) i₃ h₁).symm
  · simp only [hd, hg, hm]
    exact Eq.trans (congrArg _ (by blk_ext)) ((ld_cols _ _ _ _).trans (in3 m c t _ _)).symm

set_option maxRecDepth 1000000 in
/-- The output array after the run. -/
theorem final (H : Finite (m ((c.tc : Thread nD τ).loc main_arg0)) (m ((c.tc : Thread nD τ).loc main_arg1)) (m ((c.tc : Thread nD τ).loc main_arg2))) :
    (dats m 0 c).arrAt 4 cfg0.N = fun i : S4096x2048.Idx => outM m c (i 0) (i 1) := by
  refine (dats m 0 c).arrAt_eq_of_covers 4 _ (by decide +kernel) fun t hf y => ?_
  blk_simp
  rw [after0_4]
  unfold outsAt0
  frame_out
  canon_tiles x h
  all_goals
    refine Eq.trans (b := headOut _ _ _ _ x) rfl ?_
    refine head_block m c H t x _ _ _ (by omega) (by omega) _ _ ?_ ?_ _ _ _ _
    · rw [← h0]; exact row_emb t y
    · exact (col_emb t y).trans (by omega)

end Cert.GqaPrompt.Kern

end
-- ==== Proof.GqaPromptRef.lean ====
/- The reference's grouped attention array of the prompt rows, read one element at a time. -/
module

public import proofs.«01_k».proof.Proof.Gen.Reference13Ideal.Run
public import proofs.«01_k».proof.Proof.GqaPromptSpec

@[expose] public section

set_option maxRecDepth 16384

noncomputable section

namespace Cert.GqaPrompt.Ref

open Cert.Reference13Ideal Cert.Reference13Ideal.Gen Idealize.ShloMosaic Idealize.ShloMosaic.TcCoe Idealize.SL.Sem
open Cert.Softmax Cert.GqaPrompt
open Cert.MlaSample (ofBits_neg_inf)

/-- The values of all heads. -/
def valT (kv : FVec Ideal S6144x1024 .f32) : FVec Ideal S16x256x8x64 .f32 :=
  shapeCast _ (extractStridedSlice S4096x512 ![0, 512] kv slices_S6144x1024_S4096x512_0_512) shapeCasts_S4096x512_S16x256x8x64

/-- The scores of all heads, the sink after the keys. -/
def scoreT (q : FVec Ideal S6144x2048 .bf16) (kv : FVec Ideal S6144x1024 .f32) (sink : FVec Ideal S32 .f32) : FVec Ideal S16x8x4x256x257 .f32 :=
  (concatenate S16x8x4x256x257 4 [⟨S16x8x4x256x256, (mulf (transpose S16x8x4x256x256 [0, 1, 4, 3, 2] (Host.dotGeneral (φ₁ := .f32) (φ₂ := .f32) dot_S16x256x8x64_S16x256x8x4x64_S16x8x256x256x4_3_4_1_13_02_02 none (shapeCast _ (extractStridedSlice S4096x512 ![0, 0] kv slices_S6144x1024_S4096x512_0_0) shapeCasts_S4096x512_S16x256x8x64) (shapeCast _ (extractStridedSlice S4096x2048 ![0, 0] (extf .f32 q bitsLt_bf16_f32) slices_S6144x2048_S4096x2048_0_0) shapeCasts_S4096x2048_S16x256x8x4x64)) transposes_S16x8x256x256x4_S16x8x4x256x256_0_1_4_3_2) (broadcastInDim S16x8x4x256x256 ![] bcast_S_S16x8x4x256x256 (constant S_ .f32 0x3E000000#32)))⟩, ⟨S16x8x4x256x1, (broadcastInDim S16x8x4x256x1 ![0, 1, 2, 3, 4] bcast_S1x8x4x1x1_S16x8x4x256x1_0_1_2_3_4 (broadcastInDim S1x8x4x1x1 ![1, 2] bcast_S8x4_S1x8x4x1x1_1_2 (shapeCast _ sink shapeCasts_S32_S8x4)))⟩] concatenates_S16x8x4x256x256_S16x8x4x256x1_S16x8x4x256x257_d4)

/-- The largest score of each query. -/
def maxT (s : FVec Ideal S16x8x4x256x257 .f32) : FVec Ideal S16x8x4x256 .f32 :=
  Host.reduce FloatOps.maximumf s (constant S_ .f32 0xFF800000#32) reducesTo_S16x8x4x256x257_S16x8x4x256_d4 h_S_

/-- The exponentials of the scores less the largest one. -/
def expT (s : FVec Ideal S16x8x4x256x257 .f32) (M : FVec Ideal S16x8x4x256 .f32) : FVec Ideal S16x8x4x256x257 .f32 :=
  Host.exp (subf s (broadcastInDim S16x8x4x256x257 ![0, 1, 2, 3, 4] bcast_S16x8x4x256x1_S16x8x4x256x257_0_1_2_3_4 (broadcastInDim S16x8x4x256x1 ![0, 1, 2, 3] bcast_S16x8x4x256_S16x8x4x256x1_0_1_2_3 (maximumf (broadcastInDim S16x8x4x256 ![] bcast_S_S16x8x4x256 (constant S_ .f32 0xFF800000#32)) M))))

/-- The weighted sum of the values, the heads side by side. -/
def outT (v : FVec Ideal S16x256x8x64 .f32) (e : FVec Ideal S16x8x4x256x257 .f32) : FVec Ideal S4096x2048 .bf16 :=
  truncf .bf16 (shapeCast _ (transpose S16x256x8x4x64 [0, 4, 1, 3, 2] (Host.dotGeneral (φ₁ := .f32) (φ₂ := .f32) dot_S16x256x8x64_S16x8x4x256x256_S16x8x64x4x256_1_4_3_23_02_01 none v (extractStridedSlice S16x8x4x256x256 ![0, 0, 0, 0, 0] (Host.divf e (broadcastInDim S16x8x4x256x257 ![0, 1, 2, 3, 4] bcast_S16x8x4x256x1_S16x8x4x256x257_0_1_2_3_4 (broadcastInDim S16x8x4x256x1 ![0, 1, 2, 3] bcast_S16x8x4x256_S16x8x4x256x1_0_1_2_3 (Host.reduceAdd e (constant S_ .f32 0x00000000#32) reducesTo_S16x8x4x256x257_S16x8x4x256_d4 h_S_)))) slices_S16x8x4x256x257_S16x8x4x256x256_0_0_0_0_0)) transposes_S16x8x64x4x256_S16x256x8x4x64_0_4_1_3_2) shapeCasts_S16x256x8x4x64_S4096x2048) bitsLt_bf16_f32

theorem maxT_eq (s : FVec Ideal S16x8x4x256x257 .f32) (b : Fin 16) (h : Fin 8) (g : Fin 4) (t : Fin 256) :
    maxT s (ix4 b h g t) = Finset.univ.fold max (Ideal.ofBits .f32 0xFF800000#32) fun k : Fin 257 => s (ix5 b h g t k) := by
  refine (Host.reduce_eq_fold (FloatOps.maximumf (F := Ideal) (φ := .f32)) _ _ _ _ _).trans ?_
  exact Shape.ReducesTo.fold_fiber_r5_a4 _ _ _ _ _

theorem expT_eq (s : FVec Ideal S16x8x4x256x257 .f32) (M : FVec Ideal S16x8x4x256 .f32) (b : Fin 16) (h : Fin 8) (g : Fin 4) (t : Fin 256) (j : Fin 257) :
    expT s M (ix5 b h g t j) = Ideal.exp (s (ix5 b h g t j) - max (Ideal.ofBits .f32 0xFF800000#32) (M (ix4 b h g t))) := by
  pointwise [expT]

theorem outT_eq (v : FVec Ideal S16x256x8x64 .f32) (e : FVec Ideal S16x8x4x256x257 .f32) (x : S4096x2048.Idx) :
    outT v e x = ∑ s : Fin 256, v (ix4 (⟨(x 0).val / 256, by have := (x 0).isLt; simp at this; omega⟩ : Fin 16) s (⟨(x 1).val / 256, by have := (x 1).isLt; simp at this; omega⟩ : Fin 8) (⟨(x 1).val % 64, by omega⟩ : Fin 64))
      * Ideal.div (e (ix5 (⟨(x 0).val / 256, by have := (x 0).isLt; simp at this; omega⟩ : Fin 16) (⟨(x 1).val / 256, by have := (x 1).isLt; simp at this; omega⟩ : Fin 8) (⟨(x 1).val / 64 % 4, by omega⟩ : Fin 4) (⟨(x 0).val % 256, by omega⟩ : Fin 256) s.castSucc))
        (∑ s : Fin 257, e (ix5 (⟨(x 0).val / 256, by have := (x 0).isLt; simp at this; omega⟩ : Fin 16) (⟨(x 1).val / 256, by have := (x 1).isLt; simp at this; omega⟩ : Fin 8) (⟨(x 1).val / 64 % 4, by omega⟩ : Fin 4) (⟨(x 0).val % 256, by omega⟩ : Fin 256) s)) := by
  pointwise [outT]
  rfl

theorem valT_eq (kv : FVec Ideal S6144x1024 .f32) (b : Fin 16) (s : Fin 256) (h : Fin 8) (d : Fin 64) :
    valT kv (ix4 b s h d) = kv (ix2 (⟨b.val * 256 + s.val, by omega⟩ : Fin 6144) (⟨512 + (h.val * 64 + d.val), by omega⟩ : Fin 1024)) := by
  pointwise [valT]

theorem scoreT_eq (q : FVec Ideal S6144x2048 .bf16) (kv : FVec Ideal S6144x1024 .f32) (sink : FVec Ideal S32 .f32) (b : Fin 16) (s : Fin 257) (h : Fin 8) (g : Fin 4) (t : Fin 256) :
    scoreT q kv sink (ix5 b h g t s)
      = if hs : s.val < 256 then
          (∑ k : Fin 64, kv (ix2 (⟨b.val * 256 + s.val, by omega⟩ : Fin 6144) (⟨h.val * 64 + k.val, by omega⟩ : Fin 1024))
            * q (ix2 (⟨b.val * 256 + t.val, by omega⟩ : Fin 6144) (⟨h.val * 256 + g.val * 64 + k.val, by omega⟩ : Fin 2048))) * Ideal.ofBits .f32 0x3E000000#32
        else sink (ix1 (⟨h.val * 4 + g.val, by omega⟩ : Fin 32)) := by
  pointwise [scoreT]

/-- Every element of the reference's array. -/
theorem res_eq (m : (ℓ : Loc nD τ sig) → Buf (Elt Ideal) ℓ) (c : Dev nD) :
    Cert.Reference13Ideal.Value.res_out0 m c = fun x : S4096x2048.Idx =>
      out (m ((c.tc : Thread nD τ).loc main_arg0)) (m ((c.tc : Thread nD τ).loc main_arg1)) (m ((c.tc : Thread nD τ).loc main_arg2)) (x 0) (x 1) := by
  show outT (valT (m ((c.tc : Thread nD τ).loc main_arg1))) (expT (scoreT (m ((c.tc : Thread nD τ).loc main_arg0)) (m ((c.tc : Thread nD τ).loc main_arg1)) (m ((c.tc : Thread nD τ).loc main_arg2)))
    (maxT (scoreT (m ((c.tc : Thread nD τ).loc main_arg0)) (m ((c.tc : Thread nD τ).loc main_arg1)) (m ((c.tc : Thread nD τ).loc main_arg2))))) = _
  generalize m ((c.tc : Thread nD τ).loc main_arg0) = q
  generalize m ((c.tc : Thread nD τ).loc main_arg1) = kv
  generalize m ((c.tc : Thread nD τ).loc main_arg2) = sink
  funext x
  have hs : ∀ s : Fin 257, scoreT q kv sink (ix5 (⟨(x 0).val / 256, by have := (x 0).isLt; simp at this; omega⟩ : Fin 16) (⟨(x 1).val / 256, by have := (x 1).isLt; simp at this; omega⟩ : Fin 8) (⟨(x 1).val / 64 % 4, by omega⟩ : Fin 4) (⟨(x 0).val % 256, by omega⟩ : Fin 256) s)
      = scs q kv sink (x 0) ⟨(x 1).val / 64, by have := (x 1).isLt; simp at this; omega⟩ s := fun s => by
    have e : (x 0).val / 256 * 256 + (x 0).val % 256 = (x 0).val := by omega
    have e₁ : (x 1).val / 256 * 256 + (x 1).val / 64 % 4 * 64 = (x 1).val / 64 * 64 := by omega
    have e₂ : (x 1).val / 256 * 4 + (x 1).val / 64 % 4 = (x 1).val / 64 := by omega
    have e₃ : (x 1).val / 64 / 4 = (x 1).val / 256 := by omega
    rw [scoreT_eq]
    unfold scs sc
    simp only [e, e₁, e₂, e₃]
    split
    · exact congrArg (· * _) (Finset.sum_congr rfl fun k _ => mul_comm _ _)
    · rfl
  rw [outT_eq]
  unfold out sinkRow
  simp only [expT_eq, maxT_eq, valT_eq, hs, ofBits_neg_inf]

end Cert.GqaPrompt.Ref

end
-- ==== Proof.MlaPromptSpec.lean ====
/- The latent attention of the prompt rows, one output element at a time: the scores of a query row against the 256 keys of
   its sequence and the values they weigh; and what the precondition says about them. -/
module

public import proofs.«01_k».proof.Pre_finite_prompt_scores
public import proofs.«01_k».proof.Proof.MlaSamplePre

@[expose] public section

set_option maxRecDepth 16384

noncomputable section

namespace Cert.MlaPrompt

open Idealize.ShloMosaic Cert.Softmax Cert.MlaSample

section
variable (q : FVec Ideal ⟨2, ![6144, 3072]⟩ .bf16) (kv : FVec Ideal ⟨2, ![6656, 4096]⟩ .bf16) (kr : FVec Ideal ⟨2, ![6144, 64]⟩ .f32)

/-- The score of key `s` for the query of row `r`, head `h`. -/
def sc (r : Fin 4096) (h : Fin 16) (s : Fin 256) : EReal :=
  score (fun k : Fin 128 => q (ix2 (⟨r.val, by omega⟩ : Fin 6144) (⟨h.val * 128 + k.val, by omega⟩ : Fin 3072)))
    (fun k => kv (ix2 (⟨r.val / 256 * 256 + s.val, by omega⟩ : Fin 6656) (⟨h.val * 128 + k.val, by omega⟩ : Fin 4096)))
    (fun k : Fin 64 => q (ix2 (⟨r.val, by omega⟩ : Fin 6144) (⟨2048 + (h.val * 64 + k.val), by omega⟩ : Fin 3072)))
    (fun k => kr (ix2 (⟨r.val / 256 * 256 + s.val, by omega⟩ : Fin 6144) k)) (Ideal.ofBits .f32 0x3D93CD3A#32)

/-- One output element: row `r`, column `128 h + d`. -/
def out (r : Fin 4096) (col : Fin 2048) : EReal :=
  row (sc q kv kr r ⟨col.val / 128, by omega⟩)
    fun s => kv (ix2 (⟨r.val / 256 * 256 + s.val, by omega⟩ : Fin 6656) (⟨2048 + col.val, by omega⟩ : Fin 4096))

/-- What the scores read is finite. -/
structure Finite : Prop where
  q : ∀ (r : Fin 4096) (k : Fin 3072), Fin' (q (ix2 (⟨r.val, by omega⟩ : Fin 6144) k))
  kv : ∀ (r : Fin 4096) (k : Fin 2048), Fin' (kv (ix2 (⟨r.val, by omega⟩ : Fin 6656) (⟨k.val, by omega⟩ : Fin 4096)))
  kr : ∀ (r : Fin 4096) (k : Fin 64), Fin' (kr (ix2 (⟨r.val, by omega⟩ : Fin 6144) k))

variable {q kv kr}

theorem sc_fin (H : Finite q kv kr) (r : Fin 4096) (h : Fin 16) (s : Fin 256) : Fin' (sc q kv kr r h s) :=
  Fin'.score (fun k => H.q r _) (fun k => H.kv ⟨r.val / 256 * 256 + s.val, by omega⟩ ⟨h.val * 128 + k.val, by omega⟩) (fun k => H.q r _)
    (fun k => H.kr ⟨r.val / 256 * 256 + s.val, by omega⟩ k) scale_fin

end

/-- The shape facts the precondition states. -/
theorem preFacts : Cert.Pre_finite_prompt_scores.Facts where
  slices_S6144x3072_S4096x3072_0_0 := by decide
  bitsLt_bf16_f32 := by decide
  bcast_S_S4096x3072 := by decide
  slices_S6656x4096_S4096x2048_0_0 := by decide
  bcast_S_S4096x2048 := by decide
  slices_S6144x64_S4096x64_0_0 := by decide
  bcast_S_S4096x64 := by decide

variable [Cert.Pre_finite_prompt_scores.Facts]

theorem finite_of_pre (q : FVec Ideal ⟨2, ![6144, 3072]⟩ .bf16) (kv : FVec Ideal ⟨2, ![6656, 4096]⟩ .bf16) (kr : FVec Ideal ⟨2, ![6144, 64]⟩ .f32)
    (h : (Cert.Pre_finite_prompt_scores.fn q kv kr).1 = (fun _ => 1#1) ∧ (Cert.Pre_finite_prompt_scores.fn q kv kr).2.1 = (fun _ => 1#1)
      ∧ (Cert.Pre_finite_prompt_scores.fn q kv kr).2.2 = (fun _ => 1#1)) : Finite q kv kr := by
  obtain ⟨h1, h2, h3⟩ := h
  refine ⟨fun r k => ?_, fun r k => ?_, fun r k => ?_⟩
  · have := congrFun h1 (ix2 r k)
    dsimp only [Cert.Pre_finite_prompt_scores.fn, Cert.Pre_finite_prompt_scores.fn_part1] at this
    pointwise at this
    exact of_both this
  · have := congrFun h2 (ix2 r k)
    dsimp only [Cert.Pre_finite_prompt_scores.fn, Cert.Pre_finite_prompt_scores.fn_part1] at this
    pointwise at this
    exact of_both this
  · have := congrFun h3 (ix2 r k)
    dsimp only [Cert.Pre_finite_prompt_scores.fn, Cert.Pre_finite_prompt_scores.fn_part1] at this
    pointwise at this
    exact of_both this

end Cert.MlaPrompt

end
-- ==== Proof.MlaPromptKernel.lean ====
/- The kernel's attention array of the prompt rows, read one element at a time: each grid point writes one sequence's 256
   query rows, one head after another. -/
module

public import proofs.«01_k».proof.Proof.Gen.Kernel12Ideal.Value
public import proofs.«01_k».proof.Proof.MlaPromptSpec
public import proofs.«01_k».proof.Proof.MlaSampleKernel

@[expose] public section

set_option maxRecDepth 16384

noncomputable section

namespace Cert.MlaPrompt.Kern

open Cert.Kernel12Ideal Cert.Kernel12Ideal.Gen Idealize.ShloMosaic Idealize.ShloMosaic.TcCoe Idealize.SL.Sem
open Idealize.ShloMosaic.Pipeline (Dat)
open Cert.Softmax Cert.MlaSample Cert.MlaPrompt
open Cert.MlaSample.Kern (ld_cols)

/-- One head of one sequence: the chain that every head runs over its own columns. -/
def headOut {F : FTy → Type} [FloatOps F] (kr : FVec F S256x64 .f32) (qn : FVec F S256x128 .bf16) (qr : FVec F S256x64 .bf16)
    (kn : FVec F S256x128 .bf16) (v : FVec F S256x128 .bf16) : FVec F S256x128 .bf16 :=
  k0_pay3 kr qn qr kn v

theorem headOut_eq (kr : FVec Ideal S256x64 .f32) (qn : FVec Ideal S256x128 .bf16) (qr : FVec Ideal S256x64 .bf16)
    (kn : FVec Ideal S256x128 .bf16) (v : FVec Ideal S256x128 .bf16) (x : S256x128.Idx)
    (s w : Fin 256 → EReal) (hs : ∀ i, Fin' (s i))
    (h : ∀ j : Fin 256, s j = score (fun k : Fin 128 => qn (ix2 (x 0) k)) (fun k => kn (ix2 j k)) (fun k : Fin 64 => qr (ix2 (x 0) k)) (fun k => kr (ix2 j k)) (Ideal.ofBits .f32 0x3D93CD3A#32))
    (g : ∀ j : Fin 256, w j = v (ix2 j (x 1))) :
    headOut kr qn qr kn v x = row s w := by
  refine Eq.trans ?_ (row_eq_one s w hs)
  rw [funext h, funext g]
  pointwise [headOut, k0_pay3, k0_pay2]
  rw [ofBits_neg_inf]
  rfl

variable (m : (ℓ : Loc nD τ sig) → Buf (Elt Ideal) ℓ) (c : Dev nD)

/-- Which block of each array grid point `t` reads and writes. -/
theorem idx : ∀ t : Fin cfg0.N,
    (win0_0.index t 0 = t.val ∧ win0_0.index t 1 = 0) ∧ (win0_1.index t 0 = t.val ∧ win0_1.index t 1 = 2)
    ∧ (win0_2.index t 0 = t.val ∧ win0_2.index t 1 = 0) ∧ (win0_3.index t 0 = t.val ∧ win0_3.index t 1 = 1)
    ∧ (win0_4.index t 0 = t.val ∧ win0_4.index t 1 = 0) ∧ (win0_5.index t 0 = t.val ∧ win0_5.index t 1 = 0) :=
  (by decide +kernel : ∀ t : Fin grid0.N, _)

theorem lt (t : Fin cfg0.N) : t.val < 16 := t.isLt

/-! What each input block holds, in the argument arrays' own indices. -/

theorem in0 (t : Fin cfg0.N) (r : Fin 256) (k : Fin 2048) :
    X0_0 m c t (ix2 r k) = m ((c.tc : Thread nD τ).loc main_arg0) (ix2 (⟨256 * t.val + r.val, by have := lt t; omega⟩ : Fin 6144) (⟨k.val, by omega⟩ : Fin 3072)) := by
  unfold X0_0 Pipeline.Window.fill
  rw [dif_pos (moved0_0 t _)]
  blk_ext! [iblk, V, idx t]

theorem in1 (t : Fin cfg0.N) (r : Fin 256) (k : Fin 1024) :
    iblk m c 1 t (ix2 r k) = m ((c.tc : Thread nD τ).loc main_arg0) (ix2 (⟨256 * t.val + r.val, by have := lt t; omega⟩ : Fin 6144) (⟨2048 + k.val, by omega⟩ : Fin 3072)) := by
  blk_ext! [iblk, V, idx t]

theorem in2 (t : Fin cfg0.N) (r : Fin 256) (k : Fin 2048) :
    iblk m c 2 t (ix2 r k) = m ((c.tc : Thread nD τ).loc main_arg1) (ix2 (⟨256 * t.val + r.val, by have := lt t; omega⟩ : Fin 6656) (⟨k.val, by omega⟩ : Fin 4096)) := by
  blk_ext! [iblk, V, idx t]

theorem in3 (t : Fin cfg0.N) (r : Fin 256) (k : Fin 2048) :
    iblk m c 3 t (ix2 r k) = m ((c.tc : Thread nD τ).loc main_arg1) (ix2 (⟨256 * t.val + r.val, by have := lt t; omega⟩ : Fin 6656) (⟨2048 + k.val, by omega⟩ : Fin 4096)) := by
  blk_ext! [iblk, V, idx t]

theorem in4 (t : Fin cfg0.N) (r : Fin 256) (k : Fin 64) :
    iblk m c 4 t (ix2 r k) = m ((c.tc : Thread nD τ).loc main_arg2) (ix2 (⟨256 * t.val + r.val, by have := lt t; omega⟩ : Fin 6144) k) := by
  blk_ext! [iblk, V, idx t]

/-- One output element over this memory's arguments. -/
abbrev outM (r : Fin 4096) (col : Fin 2048) : EReal :=
  out (m ((c.tc : Thread nD τ).loc main_arg0)) (m ((c.tc : Thread nD τ).loc main_arg1)) (m ((c.tc : Thread nD τ).loc main_arg2)) r col

/-- The rows and columns of the output block of a grid point. -/
theorem row_emb (t : Fin cfg0.N) (y : ((cfg0.win 5).xblock (cfg0.grid.coords t)).Idx) :
    ((((View.whole main_v0).slice (win0_5.rect t)).emb y 0 : Fin _) : ℕ) = 256 * t.val + (y 0).val := by
  have h : ((win0_5.rect t).emb y 0 : ℕ) = win0_5.index t 0 * 256 + (y 0).val := win0_5.rect_emb_val t y 0
  rw [(idx t).2.2.2.2.2.1] at h
  exact h.trans (by omega)

theorem col_emb (t : Fin cfg0.N) (y : ((cfg0.win 5).xblock (cfg0.grid.coords t)).Idx) :
    ((((View.whole main_v0).slice (win0_5.rect t)).emb y 1 : Fin _) : ℕ) = (y 1).val := by
  have h : ((win0_5.rect t).emb y 1 : ℕ) = win0_5.index t 1 * 2048 + (y 1).val := win0_5.rect_emb_val t y 1
  rw [(idx t).2.2.2.2.2.2] at h
  exact h.trans (by omega)

/-- What the head that starts at column `o` (and at rotary column `o'`) stores is the output element of its row and column. -/
theorem head_block (H : Finite (m ((c.tc : Thread nD τ).loc main_arg0)) (m ((c.tc : Thread nD τ).loc main_arg1)) (m ((c.tc : Thread nD τ).loc main_arg2)))
    (t : Fin cfg0.N) (x : S256x128.Idx) (o o' : ℕ) (ho : o % 128 = 0) (ho' : 2 * o' = o) (r : Fin 4096) (col : Fin 2048)
    (hr : r.val = 256 * t.val + (x 0).val) (hc : col.val = o + (x 1).val)
    (i₁ : ∀ a, (![0, o] : Fin 2 → ℕ) a + (![256, 128] : Fin 2 → ℕ) a ≤ S256x2048.size a) (i₂ : ∀ a, (![0, o'] : Fin 2 → ℕ) a + (![256, 64] : Fin 2 → ℕ) a ≤ S256x1024.size a) :
    headOut (F := Ideal) (iblk m c 4 t) (View.ld (X0_0 m c t) (Rect.unit ![0, o] ![256, 128] i₁)) (View.ld (iblk m c 1 t) (Rect.unit ![0, o'] ![256, 64] i₂))
      (View.ld (iblk m c 2 t) (Rect.unit ![0, o] ![256, 128] i₁)) (View.ld (iblk m c 3 t) (Rect.unit ![0, o] ![256, 128] i₁)) x = outM m c r col := by
  have ht := lt t
  have hx0 : (x 0).val < 256 := (x 0).isLt
  have hx1 : (x 1).val < 128 := (x 1).isLt
  have hcol := col.isLt
  have hh : col.val / 128 * 128 = o := by omega
  have hh' : col.val / 128 * 64 = o' := by omega
  have hd : r.val / 256 = t.val := by omega
  refine headOut_eq _ _ _ _ _ x _ _ (sc_fin H _ _) (fun j => ?_) (fun j => ?_)
  · unfold sc
    simp only [hh, hh', hd]
    refine score_congr _ (fun k => ?_) (fun k => ?_) (fun k => ?_) (fun k => ?_)
    · exact Eq.trans (congrArg _ (by blk_ext)) ((ld_cols _ _ _ _).trans (in0 m c t _ _)).symm
    · exact Eq.trans (congrArg _ (by blk_ext)) ((ld_cols _ _ _ _).trans (in2 m c t _ _)).symm
    · exact Eq.trans (congrArg _ (by blk_ext)) ((ld_cols _ _ _ _).trans (in1 m c t _ _)).symm
    · exact Eq.trans (congrArg _ (by blk_ext)) (in4 m c t _ _).symm
  · simp only [hd]
    exact Eq.trans (congrArg _ (by blk_ext)) ((ld_cols _ _ _ _).trans (in3 m c t _ _)).symm

set_option maxRecDepth 1000000 in
/-- The output array after the run. -/
theorem final (H : Finite (m ((c.tc : Thread nD τ).loc main_arg0)) (m ((c.tc : Thread nD τ).loc main_arg1)) (m ((c.tc : Thread nD τ).loc main_arg2))) :
    (dats m 0 c).arrAt 5 cfg0.N = fun i : S4096x2048.Idx => outM m c (i 0) (i 1) := by
  refine (dats m 0 c).arrAt_eq_of_covers 5 _ (by decide +kernel) fun t hf y => ?_
  blk_simp
  rw [after0_5]
  unfold outsAt0
  frame_out
  canon_tiles x h
  all_goals
    refine Eq.trans (b := headOut _ _ _ _ _ x) rfl ?_
    refine head_block m c H t x _ _ (by omega) (by omega) _ _ ?_ ?_ _ _
    · rw [← h0]; exact row_emb t y
    · exact (col_emb t y).trans (by omega)

end Cert.MlaPrompt.Kern

end
-- ==== Proof.MlaPromptRef.lean ====
/- The reference's attention array of the prompt rows, read one element at a time. -/
module

public import proofs.«01_k».proof.Proof.Gen.Reference12Ideal.Run
public import proofs.«01_k».proof.Proof.MlaPromptSpec

@[expose] public section

set_option maxRecDepth 16384

noncomputable section

namespace Cert.MlaPrompt.Ref

open Cert.Reference12Ideal Cert.Reference12Ideal.Gen Idealize.ShloMosaic Idealize.ShloMosaic.TcCoe Idealize.SL.Sem
open Cert.Softmax Cert.MlaSample Cert.MlaPrompt

/-- The scores of all heads. -/
def scoreT (q : FVec Ideal S6144x3072 .bf16) (kv : FVec Ideal S6656x4096 .bf16) (kr : FVec Ideal S6144x64 .f32) : FVec Ideal S16x16x256x256 .f32 :=
  (mulf (Host.dotGeneral dot_S16x256x16x192_S16x256x16x192_S16x16x256x256_3_3_1_1_02_02 none (concatenate S16x256x16x192 3 [⟨S16x256x16x128, (shapeCast _ (extractStridedSlice S4096x2048 ![0, 0] (extractStridedSlice S4096x3072 ![0, 0] (extf .f32 q bitsLt_bf16_f32) slices_S6144x3072_S4096x3072_0_0) slices_S4096x3072_S4096x2048_0_0) shapeCasts_S4096x2048_S16x256x16x128)⟩, ⟨S16x256x16x64, (shapeCast _ (extractStridedSlice S4096x1024 ![0, 2048] (extractStridedSlice S4096x3072 ![0, 0] (extf .f32 q bitsLt_bf16_f32) slices_S6144x3072_S4096x3072_0_0) slices_S4096x3072_S4096x1024_0_2048) shapeCasts_S4096x1024_S16x256x16x64)⟩] concatenates_S16x256x16x128_S16x256x16x64_S16x256x16x192_d3) (concatenate S16x256x16x192 3 [⟨S16x256x16x128, (shapeCast _ (extractStridedSlice S4096x2048 ![0, 0] (extractStridedSlice S4096x4096 ![0, 0] (extf .f32 kv bitsLt_bf16_f32) slices_S6656x4096_S4096x4096_0_0) slices_S4096x4096_S4096x2048_0_0) shapeCasts_S4096x2048_S16x256x16x128)⟩, ⟨S16x256x16x64, (broadcastInDim S16x256x16x64 ![0, 1, 2, 3] bcast_S16x256x1x64_S16x256x16x64_0_1_2_3 (broadcastInDim S16x256x1x64 ![0, 1, 3] bcast_S16x256x64_S16x256x1x64_0_1_3 (shapeCast _ (extractStridedSlice S4096x64 ![0, 0] kr slices_S6144x64_S4096x64_0_0) shapeCasts_S4096x64_S16x256x64)))⟩] concatenates_S16x256x16x128_S16x256x16x64_S16x256x16x192_d3)) (broadcastInDim S16x16x256x256 ![] bcast_S_S16x16x256x256 (constant S_ .f32 0x3D93CD3A#32)))

/-- The values of all heads. -/
def valT (kv : FVec Ideal S6656x4096 .bf16) : FVec Ideal S16x256x16x128 .f32 :=
  (shapeCast _ (extractStridedSlice S4096x2048 ![0, 2048] (extractStridedSlice S4096x4096 ![0, 0] (extf .f32 kv bitsLt_bf16_f32) slices_S6656x4096_S4096x4096_0_0) slices_S4096x4096_S4096x2048_0_2048) shapeCasts_S4096x2048_S16x256x16x128)

/-- The largest score of each query. -/
def maxT (s : FVec Ideal S16x16x256x256 .f32) : FVec Ideal S16x16x256 .f32 :=
  Host.reduce FloatOps.maximumf s (constant S_ .f32 0xFF800000#32) reducesTo_S16x16x256x256_S16x16x256_d3 h_S_

/-- The exponentials of the scores less the largest one. -/
def expT (s : FVec Ideal S16x16x256x256 .f32) (M : FVec Ideal S16x16x256 .f32) : FVec Ideal S16x16x256x256 .f32 :=
  Host.exp (subf s (broadcastInDim S16x16x256x256 ![0, 1, 2, 3] bcast_S16x16x256x1_S16x16x256x256_0_1_2_3 (broadcastInDim S16x16x256x1 ![0, 1, 2] bcast_S16x16x256_S16x16x256x1_0_1_2 (maximumf (broadcastInDim S16x16x256 ![] bcast_S_S16x16x256 (constant S_ .f32 0xFF800000#32)) M))))

/-- The weighted sum of the values, the heads side by side. -/
def outT (v : FVec Ideal S16x256x16x128 .f32) (e : FVec Ideal S16x16x256x256 .f32) : FVec Ideal S4096x2048 .bf16 :=
  truncf .bf16 (shapeCast _ (transpose S16x256x16x128 [0, 3, 1, 2] (
  Host.dotGeneral (φ₁ := .f32) (φ₂ := .f32) dot_S16x256x16x128_S16x16x256x256_S16x16x128x256_1_3_3_2_02_01 none v
   (Host.divf e (broadcastInDim S16x16x256x256 ![0, 1, 2, 3] bcast_S16x16x256x1_S16x16x256x256_0_1_2_3 (broadcastInDim S16x16x256x1 ![0, 1, 2] bcast_S16x16x256_S16x16x256x1_0_1_2
     (Host.reduceAdd e (constant S_ .f32 0x00000000#32) reducesTo_S16x16x256x256_S16x16x256_d3 h_S_))))) transposes_S16x16x128x256_S16x256x16x128_0_3_1_2) shapeCasts_S16x256x16x128_S4096x2048) bitsLt_bf16_f32

theorem maxT_eq (s : FVec Ideal S16x16x256x256 .f32) (b : Fin 16) (h : Fin 16) (t : Fin 256) :
    maxT s (ix3 b h t) = Finset.univ.fold max (Ideal.ofBits .f32 0xFF800000#32) fun k : Fin 256 => s (ix4 b h t k) := by
  refine (Host.reduce_eq_fold (FloatOps.maximumf (F := Ideal) (φ := .f32)) _ _ _ _ _).trans ?_
  exact Shape.ReducesTo.fold_fiber_r4_a3 _ _ _ _ _

theorem expT_eq (s : FVec Ideal S16x16x256x256 .f32) (M : FVec Ideal S16x16x256 .f32) (b : Fin 16) (j : Fin 256) (h : Fin 16) (t : Fin 256) :
    expT s M (ix4 b h t j) = Ideal.exp (s (ix4 b h t j) - max (Ideal.ofBits .f32 0xFF800000#32) (M (ix3 b h t))) := by
  pointwise [expT]

theorem outT_eq (v : FVec Ideal S16x256x16x128 .f32) (e : FVec Ideal S16x16x256x256 .f32) (x : S4096x2048.Idx) :
    outT v e x = ∑ s : Fin 256, v (ix4 (⟨(x 0).val / 256, by have := (x 0).isLt; simp at this; omega⟩ : Fin 16) s (⟨(x 1).val / 128, by have := (x 1).isLt; simp at this; omega⟩ : Fin 16) (⟨(x 1).val % 128, by omega⟩ : Fin 128))
      * Ideal.div (e (ix4 (⟨(x 0).val / 256, by have := (x 0).isLt; simp at this; omega⟩ : Fin 16) (⟨(x 1).val / 128, by have := (x 1).isLt; simp at this; omega⟩ : Fin 16) (⟨(x 0).val % 256, by omega⟩ : Fin 256) s))
        (∑ s : Fin 256, e (ix4 (⟨(x 0).val / 256, by have := (x 0).isLt; simp at this; omega⟩ : Fin 16) (⟨(x 1).val / 128, by have := (x 1).isLt; simp at this; omega⟩ : Fin 16) (⟨(x 0).val % 256, by omega⟩ : Fin 256) s)) := by
  pointwise [outT]

theorem valT_eq (kv : FVec Ideal S6656x4096 .bf16) (b : Fin 16) (s : Fin 256) (h : Fin 16) (d : Fin 128) :
    valT kv (ix4 b s h d) = kv (ix2 (⟨b.val * 256 + s.val, by omega⟩ : Fin 6656) (⟨2048 + (h.val * 128 + d.val), by omega⟩ : Fin 4096)) := by
  pointwise [valT]

theorem scoreT_eq (q : FVec Ideal S6144x3072 .bf16) (kv : FVec Ideal S6656x4096 .bf16) (kr : FVec Ideal S6144x64 .f32) (b : Fin 16) (s : Fin 256) (h : Fin 16) (t : Fin 256) :
    scoreT q kv kr (ix4 b h t s)
      = score (fun k : Fin 128 => q (ix2 (⟨b.val * 256 + t.val, by omega⟩ : Fin 6144) (⟨h.val * 128 + k.val, by omega⟩ : Fin 3072)))
          (fun k => kv (ix2 (⟨b.val * 256 + s.val, by omega⟩ : Fin 6656) (⟨h.val * 128 + k.val, by omega⟩ : Fin 4096)))
          (fun k : Fin 64 => q (ix2 (⟨b.val * 256 + t.val, by omega⟩ : Fin 6144) (⟨2048 + (h.val * 64 + k.val), by omega⟩ : Fin 3072)))
          (fun k => kr (ix2 (⟨b.val * 256 + s.val, by omega⟩ : Fin 6144) k)) (Ideal.ofBits .f32 0x3D93CD3A#32) := by
  pointwise [scoreT, score]

/-- Every element of the reference's array. -/
theorem res_eq (m : (ℓ : Loc nD τ sig) → Buf (Elt Ideal) ℓ) (c : Dev nD) :
    Cert.Reference12Ideal.Value.res_out0 m c = fun x : S4096x2048.Idx =>
      out (m ((c.tc : Thread nD τ).loc main_arg0)) (m ((c.tc : Thread nD τ).loc main_arg1)) (m ((c.tc : Thread nD τ).loc main_arg2)) (x 0) (x 1) := by
  show outT (valT (m ((c.tc : Thread nD τ).loc main_arg1))) (expT (scoreT (m ((c.tc : Thread nD τ).loc main_arg0)) (m ((c.tc : Thread nD τ).loc main_arg1)) (m ((c.tc : Thread nD τ).loc main_arg2)))
    (maxT (scoreT (m ((c.tc : Thread nD τ).loc main_arg0)) (m ((c.tc : Thread nD τ).loc main_arg1)) (m ((c.tc : Thread nD τ).loc main_arg2))))) = _
  generalize m ((c.tc : Thread nD τ).loc main_arg0) = q
  generalize m ((c.tc : Thread nD τ).loc main_arg1) = kv
  generalize m ((c.tc : Thread nD τ).loc main_arg2) = kr
  funext x
  have hs : ∀ s : Fin 256, scoreT q kv kr (ix4 (⟨(x 0).val / 256, by have := (x 0).isLt; simp at this; omega⟩ : Fin 16) (⟨(x 1).val / 128, by have := (x 1).isLt; simp at this; omega⟩ : Fin 16) (⟨(x 0).val % 256, by omega⟩ : Fin 256) s)
      = sc q kv kr (x 0) ⟨(x 1).val / 128, by have := (x 1).isLt; simp at this; omega⟩ s := fun s => by
    have e : (x 0).val / 256 * 256 + (x 0).val % 256 = (x 0).val := by omega
    rw [scoreT_eq]
    unfold sc
    simp only [e]
  have hv : 2048 + ((x 1).val / 128 * 128 + (x 1).val % 128) = 2048 + (x 1).val := by omega
  rw [outT_eq]
  unfold out row
  simp only [expT_eq, maxT_eq, valT_eq, hs, ofBits_neg_inf, hv]

end Cert.MlaPrompt.Ref

end
-- ==== Proof.PeerQuery0.lean ====
/- The query projection of the first layer's experts. -/
module

public import proofs.«01_k».proof.Defs
public import proofs.«01_k».proof.Proof.Gen.Kernel16Ideal.Value
public import proofs.«01_k».proof.Proof.Gen.Reference16Ideal.Run
public import proofs.«01_k».proof.Proof.PeerLayer
public import Idealize.ShloMosaic.Lib.Claim

@[expose] public section

set_option maxRecDepth 16384

noncomputable section

namespace Cert.PeerQuery0

open Idealize.ShloMosaic Idealize.ShloMosaic.TcCoe Idealize.SL.Sem Cert.Dense Cert.PeerLayer
open Idealize.ShloMosaic.Pipeline (Dat)

section
open Cert.Kernel16Ideal Cert.Kernel16Ideal.Gen
variable (m : (ℓ : Loc nD τ sig) → Buf (Elt Ideal) ℓ) (c : Dev nD)

/-- Which block of each array a grid point works on. -/
theorem idx : ∀ t : Fin cfg0.N, (win0_0.index t 0 = t.val ∧ win0_0.index t 1 = 0) ∧ (win0_1.index t 0 = 0 ∧ win0_1.index t 1 = 0 ∧ win0_1.index t 2 = 0)
    ∧ (win0_2.index t 0 = t.val ∧ win0_2.index t 1 = 0) :=
  (by decide +kernel : ∀ t : Fin grid0.N, _)

theorem rows_block (t : Fin cfg0.N) (r : Fin 512) (k : Fin 2048) (R : Fin 6144) (hR : R.val = t.val * 512 + r.val) :
    iblk m c 0 t (ix2 r k) = m ((c.tc : Thread nD τ).loc main_arg0) (ix2 R k) := by
  blk_ext! [iblk, V, idx t]

theorem weights_block (t : Fin cfg0.N) (r k : Fin 2048) :
    iblk m c 1 t (ix3 (0 : Fin 1) r k) = m ((c.tc : Thread nD τ).loc main_arg1) (ix3 (0 : Fin 4) r k) := by
  blk_ext! [iblk, V, idx t]

/-- The weights in this memory. -/
abbrev W : FVec Ideal S2048x2048 .bf16 := layerW 0 (m ((c.tc : Thread nD τ).loc main_arg1))

/-- The first grid point leaves them in the scratch array. -/
theorem scratch_first (t : Fin cfg0.N) (h : t.val % 12 = 0) : (outsAt0 m c t.val t.isLt).2 = W m c := by
  rw [outsAt0_A m c t h]
  dsimp only
  unfold sout0_A_0
  funext y
  frame_out
  exact congrFun (weights_eq 0 _ _ (weights_block m c t)) y

/-- Every later one leaves the array as it finds it. -/
theorem scratch : ∀ (n : ℕ) (hn : n < cfg0.N), (outsAt0 m c n hn).2 = W m c
  | 0, hn => scratch_first m c ⟨0, hn⟩ rfl
  | n + 1, hn => by
    have h : ¬ (n + 1) % 12 = 0 := by have : n + 1 < 12 := hn; omega
    exact (congrArg Prod.snd (outsAt0_B m c ⟨n + 1, hn⟩ h)).trans (scratch n (Nat.lt_of_succ_lt hn))

/-- The kernel's product after the run. -/
theorem final : (dats m 0 c).arrAt 2 cfg0.N = fun i : S6144x2048.Idx =>
    mm (φ := .bf16) (m ((c.tc : Thread nD τ).loc main_arg0)) (W m c) (i 0) (i 1) := by
  refine (dats m 0 c).arrAt_eq_of_covers 2 _ (by decide +kernel) fun t hf y => ?_
  have e : ((win0_2.rect t).emb y 0 : ℕ) = win0_2.index t 0 * 512 + (y 0).val := win0_2.rect_emb_val t y 0
  have e' : ((win0_2.rect t).emb y 1 : ℕ) = win0_2.index t 1 * 2048 + (y 1).val := win0_2.rect_emb_val t y 1
  rw [(idx t).2.2.1] at e
  rw [(idx t).2.2.2] at e'
  have hc : (win0_2.rect t).emb y 1 = (y 1 : Fin 2048) := Fin.ext (by omega)
  blk_simp
  rw [after0_2]
  by_cases h : t.val % 12 = 0
  · rw [outsAt0_A m c t h]
    dsimp only
    frame_out
    exact product_eq 0 _ _ _ _ _ _ _ (weights_eq 0 _ _ (weights_block m c t)) hc fun k => rows_block m c t _ k _ e
  · rw [outsAt0_B m c t h, scratch]
    dsimp only
    generalize hW : W m c = w
    frame_out
    subst hW
    exact product_eq 0 _ _ _ _ _ _ _ ((Memref.isWhole_whole cc0_scratch0).read_unread (Val := Elt Ideal) _) hc fun k => rows_block m c t _ k _ e

end

/-- The kernel's array is the reference's. -/
theorem equal : Cert.algebraic_Kernel16Ideal_Reference16Ideal := by
  pair_intro
  · run_from Cert.Kernel16Ideal.Value.run_blocks m g
  · run_from Cert.Reference16Ideal.Value.run m' g'
    exact (ref_eq 0 (by decide) _ _ _).trans (final m c).symm

end Cert.PeerQuery0

end
-- ==== Proof.PeerQuery1.lean ====
/- The query projection of the second layer's experts. -/
module

public import proofs.«01_k».proof.Defs
public import proofs.«01_k».proof.Proof.Gen.Kernel17Ideal.Value
public import proofs.«01_k».proof.Proof.Gen.Reference17Ideal.Run
public import proofs.«01_k».proof.Proof.PeerLayer
public import Idealize.ShloMosaic.Lib.Claim

@[expose] public section

set_option maxRecDepth 16384

noncomputable section

namespace Cert.PeerQuery1

open Idealize.ShloMosaic Idealize.ShloMosaic.TcCoe Idealize.SL.Sem Cert.Dense Cert.PeerLayer
open Idealize.ShloMosaic.Pipeline (Dat)

section
open Cert.Kernel17Ideal Cert.Kernel17Ideal.Gen
variable (m : (ℓ : Loc nD τ sig) → Buf (Elt Ideal) ℓ) (c : Dev nD)

/-- Which block of each array a grid point works on. -/
theorem idx : ∀ t : Fin cfg0.N, (win0_0.index t 0 = t.val ∧ win0_0.index t 1 = 0) ∧ (win0_1.index t 0 = 1 ∧ win0_1.index t 1 = 0 ∧ win0_1.index t 2 = 0)
    ∧ (win0_2.index t 0 = t.val ∧ win0_2.index t 1 = 0) :=
  (by decide +kernel : ∀ t : Fin grid0.N, _)

theorem rows_block (t : Fin cfg0.N) (r : Fin 512) (k : Fin 2048) (R : Fin 6144) (hR : R.val = t.val * 512 + r.val) :
    iblk m c 0 t (ix2 r k) = m ((c.tc : Thread nD τ).loc main_arg0) (ix2 R k) := by
  blk_ext! [iblk, V, idx t]

theorem weights_block (t : Fin cfg0.N) (r k : Fin 2048) :
    iblk m c 1 t (ix3 (0 : Fin 1) r k) = m ((c.tc : Thread nD τ).loc main_arg1) (ix3 (1 : Fin 4) r k) := by
  blk_ext! [iblk, V, idx t]

/-- The weights in this memory. -/
abbrev W : FVec Ideal S2048x2048 .bf16 := layerW 1 (m ((c.tc : Thread nD τ).loc main_arg1))

/-- The first grid point leaves them in the scratch array. -/
theorem scratch_first (t : Fin cfg0.N) (h : t.val % 12 = 0) : (outsAt0 m c t.val t.isLt).2 = W m c := by
  rw [outsAt0_A m c t h]
  dsimp only
  unfold sout0_A_0
  funext y
  frame_out
  exact congrFun (weights_eq 1 _ _ (weights_block m c t)) y

/-- Every later one leaves the array as it finds it. -/
theorem scratch : ∀ (n : ℕ) (hn : n < cfg0.N), (outsAt0 m c n hn).2 = W m c
  | 0, hn => scratch_first m c ⟨0, hn⟩ rfl
  | n + 1, hn => by
    have h : ¬ (n + 1) % 12 = 0 := by have : n + 1 < 12 := hn; omega
    exact (congrArg Prod.snd (outsAt0_B m c ⟨n + 1, hn⟩ h)).trans (scratch n (Nat.lt_of_succ_lt hn))

/-- The kernel's product after the run. -/
theorem final : (dats m 0 c).arrAt 2 cfg0.N = fun i : S6144x2048.Idx =>
    mm (φ := .bf16) (m ((c.tc : Thread nD τ).loc main_arg0)) (W m c) (i 0) (i 1) := by
  refine (dats m 0 c).arrAt_eq_of_covers 2 _ (by decide +kernel) fun t hf y => ?_
  have e : ((win0_2.rect t).emb y 0 : ℕ) = win0_2.index t 0 * 512 + (y 0).val := win0_2.rect_emb_val t y 0
  have e' : ((win0_2.rect t).emb y 1 : ℕ) = win0_2.index t 1 * 2048 + (y 1).val := win0_2.rect_emb_val t y 1
  rw [(idx t).2.2.1] at e
  rw [(idx t).2.2.2] at e'
  have hc : (win0_2.rect t).emb y 1 = (y 1 : Fin 2048) := Fin.ext (by omega)
  blk_simp
  rw [after0_2]
  by_cases h : t.val % 12 = 0
  · rw [outsAt0_A m c t h]
    dsimp only
    frame_out
    exact product_eq 1 _ _ _ _ _ _ _ (weights_eq 1 _ _ (weights_block m c t)) hc fun k => rows_block m c t _ k _ e
  · rw [outsAt0_B m c t h, scratch]
    dsimp only
    generalize hW : W m c = w
    frame_out
    subst hW
    exact product_eq 1 _ _ _ _ _ _ _ ((Memref.isWhole_whole cc0_scratch0).read_unread (Val := Elt Ideal) _) hc fun k => rows_block m c t _ k _ e

end

/-- The kernel's array is the reference's. -/
theorem equal : Cert.algebraic_Kernel17Ideal_Reference17Ideal := by
  pair_intro
  · run_from Cert.Kernel17Ideal.Value.run_blocks m g
  · run_from Cert.Reference17Ideal.Value.run m' g'
    exact (ref_eq 1 (by decide) _ _ _).trans (final m c).symm

end Cert.PeerQuery1

end
-- ==== Proof.PeerQuery2.lean ====
/- The query projection of the third layer's experts. -/
module

public import proofs.«01_k».proof.Defs
public import proofs.«01_k».proof.Proof.Gen.Kernel18Ideal.Value
public import proofs.«01_k».proof.Proof.Gen.Reference18Ideal.Run
public import proofs.«01_k».proof.Proof.PeerLayer
public import Idealize.ShloMosaic.Lib.Claim

@[expose] public section

set_option maxRecDepth 16384

noncomputable section

namespace Cert.PeerQuery2

open Idealize.ShloMosaic Idealize.ShloMosaic.TcCoe Idealize.SL.Sem Cert.Dense Cert.PeerLayer
open Idealize.ShloMosaic.Pipeline (Dat)

section
open Cert.Kernel18Ideal Cert.Kernel18Ideal.Gen
variable (m : (ℓ : Loc nD τ sig) → Buf (Elt Ideal) ℓ) (c : Dev nD)

/-- Which block of each array a grid point works on. -/
theorem idx : ∀ t : Fin cfg0.N, (win0_0.index t 0 = t.val ∧ win0_0.index t 1 = 0) ∧ (win0_1.index t 0 = 2 ∧ win0_1.index t 1 = 0 ∧ win0_1.index t 2 = 0)
    ∧ (win0_2.index t 0 = t.val ∧ win0_2.index t 1 = 0) :=
  (by decide +kernel : ∀ t : Fin grid0.N, _)

theorem rows_block (t : Fin cfg0.N) (r : Fin 512) (k : Fin 2048) (R : Fin 6144) (hR : R.val = t.val * 512 + r.val) :
    iblk m c 0 t (ix2 r k) = m ((c.tc : Thread nD τ).loc main_arg0) (ix2 R k) := by
  blk_ext! [iblk, V, idx t]

theorem weights_block (t : Fin cfg0.N) (r k : Fin 2048) :
    iblk m c 1 t (ix3 (0 : Fin 1) r k) = m ((c.tc : Thread nD τ).loc main_arg1) (ix3 (2 : Fin 4) r k) := by
  blk_ext! [iblk, V, idx t]

/-- The weights in this memory. -/
abbrev W : FVec Ideal S2048x2048 .bf16 := layerW 2 (m ((c.tc : Thread nD τ).loc main_arg1))

/-- The first grid point leaves them in the scratch array. -/
theorem scratch_first (t : Fin cfg0.N) (h : t.val % 12 = 0) : (outsAt0 m c t.val t.isLt).2 = W m c := by
  rw [outsAt0_A m c t h]
  dsimp only
  unfold sout0_A_0
  funext y
  frame_out
  exact congrFun (weights_eq 2 _ _ (weights_block m c t)) y

/-- Every later one leaves the array as it finds it. -/
theorem scratch : ∀ (n : ℕ) (hn : n < cfg0.N), (outsAt0 m c n hn).2 = W m c
  | 0, hn => scratch_first m c ⟨0, hn⟩ rfl
  | n + 1, hn => by
    have h : ¬ (n + 1) % 12 = 0 := by have : n + 1 < 12 := hn; omega
    exact (congrArg Prod.snd (outsAt0_B m c ⟨n + 1, hn⟩ h)).trans (scratch n (Nat.lt_of_succ_lt hn))

/-- The kernel's product after the run. -/
theorem final : (dats m 0 c).arrAt 2 cfg0.N = fun i : S6144x2048.Idx =>
    mm (φ := .bf16) (m ((c.tc : Thread nD τ).loc main_arg0)) (W m c) (i 0) (i 1) := by
  refine (dats m 0 c).arrAt_eq_of_covers 2 _ (by decide +kernel) fun t hf y => ?_
  have e : ((win0_2.rect t).emb y 0 : ℕ) = win0_2.index t 0 * 512 + (y 0).val := win0_2.rect_emb_val t y 0
  have e' : ((win0_2.rect t).emb y 1 : ℕ) = win0_2.index t 1 * 2048 + (y 1).val := win0_2.rect_emb_val t y 1
  rw [(idx t).2.2.1] at e
  rw [(idx t).2.2.2] at e'
  have hc : (win0_2.rect t).emb y 1 = (y 1 : Fin 2048) := Fin.ext (by omega)
  blk_simp
  rw [after0_2]
  by_cases h : t.val % 12 = 0
  · rw [outsAt0_A m c t h]
    dsimp only
    frame_out
    exact product_eq 2 _ _ _ _ _ _ _ (weights_eq 2 _ _ (weights_block m c t)) hc fun k => rows_block m c t _ k _ e
  · rw [outsAt0_B m c t h, scratch]
    dsimp only
    generalize hW : W m c = w
    frame_out
    subst hW
    exact product_eq 2 _ _ _ _ _ _ _ ((Memref.isWhole_whole cc0_scratch0).read_unread (Val := Elt Ideal) _) hc fun k => rows_block m c t _ k _ e

end

/-- The kernel's array is the reference's. -/
theorem equal : Cert.algebraic_Kernel18Ideal_Reference18Ideal := by
  pair_intro
  · run_from Cert.Kernel18Ideal.Value.run_blocks m g
  · run_from Cert.Reference18Ideal.Value.run m' g'
    exact (ref_eq 2 (by decide) _ _ _).trans (final m c).symm

end Cert.PeerQuery2

end
-- ==== Proof.MlaSampleRef.lean ====
/- The reference's attention array, read one element at a time. -/
module

public import proofs.«01_k».proof.Proof.Gen.ReferenceIdeal.Run
public import proofs.«01_k».proof.Proof.MlaSampleSpec

@[expose] public section

set_option maxRecDepth 16384

noncomputable section

namespace Cert.MlaSample.Ref

open Cert.ReferenceIdeal Cert.ReferenceIdeal.Gen Idealize.ShloMosaic Idealize.ShloMosaic.TcCoe Idealize.SL.Sem
open Cert.Softmax Cert.MlaSample

/-- The scores of all heads. -/
def scoreT (q : FVec Ideal S6144x3072 .bf16) (qr : FVec Ideal S2048x1024 .bf16) (kv : FVec Ideal S6656x4096 .bf16) (kr : FVec Ideal S2048x64 .bf16) (cr : FVec Ideal S2x256x64 .f32) : FVec Ideal S2x16x1024x1280 .f32 :=
  (mulf (Host.dotGeneral dot_S2x1024x16x192_S2x1280x16x192_S2x16x1024x1280_3_3_1_1_02_02 none (concatenate S2x1024x16x192 3 [⟨S2x1024x16x128, (shapeCast _ (extractStridedSlice S2048x2048 ![4096, 0] (extf .f32 q bitsLt_bf16_f32) slices_S6144x3072_S2048x2048_4096_0) shapeCasts_S2048x2048_S2x1024x16x128)⟩, ⟨S2x1024x16x64, (shapeCast _ (extf .f32 qr bitsLt_bf16_f32) shapeCasts_S2048x1024_S2x1024x16x64)⟩] concatenates_S2x1024x16x128_S2x1024x16x64_S2x1024x16x192_d3) (concatenate S2x1280x16x192 3 [⟨S2x1280x16x128, (shapeCast _ (extractStridedSlice S2x1280x2048 ![0, 0, 0] (concatenate S2x1280x4096 1 [⟨S2x1024x4096, (shapeCast _ (extractStridedSlice S2048x4096 ![4096, 0] (extf .f32 kv bitsLt_bf16_f32) slices_S6656x4096_S2048x4096_4096_0) shapeCasts_S2048x4096_S2x1024x4096)⟩, ⟨S2x256x4096, (shapeCast _ (extractStridedSlice S512x4096 ![6144, 0] (extf .f32 kv bitsLt_bf16_f32) slices_S6656x4096_S512x4096_6144_0) shapeCasts_S512x4096_S2x256x4096)⟩] concatenates_S2x1024x4096_S2x256x4096_S2x1280x4096_d1) slices_S2x1280x4096_S2x1280x2048_0_0_0) shapeCasts_S2x1280x2048_S2x1280x16x128)⟩, ⟨S2x1280x16x64, (broadcastInDim S2x1280x16x64 ![0, 1, 2, 3] bcast_S2x1280x1x64_S2x1280x16x64_0_1_2_3 (broadcastInDim S2x1280x1x64 ![0, 1, 3] bcast_S2x1280x64_S2x1280x1x64_0_1_3 (concatenate S2x1280x64 1 [⟨S2x1024x64, (shapeCast _ (extf .f32 kr bitsLt_bf16_f32) shapeCasts_S2048x64_S2x1024x64)⟩, ⟨S2x256x64, cr⟩] concatenates_S2x1024x64_S2x256x64_S2x1280x64_d1)))⟩] concatenates_S2x1280x16x128_S2x1280x16x64_S2x1280x16x192_d3)) (broadcastInDim S2x16x1024x1280 ![] bcast_S_S2x16x1024x1280 (constant S_ .f32 0x3D93CD3A#32)))

/-- The values of all heads. -/
def valT (kv : FVec Ideal S6656x4096 .bf16) : FVec Ideal S2x1280x16x128 .f32 := (shapeCast _ (extractStridedSlice S2x1280x2048 ![0, 0, 2048] (concatenate S2x1280x4096 1 [⟨S2x1024x4096, (shapeCast _ (extractStridedSlice S2048x4096 ![4096, 0] (extf .f32 kv bitsLt_bf16_f32) slices_S6656x4096_S2048x4096_4096_0) shapeCasts_S2048x4096_S2x1024x4096)⟩, ⟨S2x256x4096, (shapeCast _ (extractStridedSlice S512x4096 ![6144, 0] (extf .f32 kv bitsLt_bf16_f32) slices_S6656x4096_S512x4096_6144_0) shapeCasts_S512x4096_S2x256x4096)⟩] concatenates_S2x1024x4096_S2x256x4096_S2x1280x4096_d1) slices_S2x1280x4096_S2x1280x2048_0_0_2048) shapeCasts_S2x1280x2048_S2x1280x16x128)

/-- The largest score of each query. -/
def maxT (s : FVec Ideal S2x16x1024x1280 .f32) : FVec Ideal S2x16x1024 .f32 :=
  Host.reduce FloatOps.maximumf s (constant S_ .f32 0xFF800000#32) reducesTo_S2x16x1024x1280_S2x16x1024_d3 h_S_

/-- The exponentials of the scores less the largest one. -/
def expT (s : FVec Ideal S2x16x1024x1280 .f32) (M : FVec Ideal S2x16x1024 .f32) : FVec Ideal S2x16x1024x1280 .f32 :=
  Host.exp (subf s (broadcastInDim S2x16x1024x1280 ![0, 1, 2, 3] bcast_S2x16x1024x1_S2x16x1024x1280_0_1_2_3 (broadcastInDim S2x16x1024x1 ![0, 1, 2] bcast_S2x16x1024_S2x16x1024x1_0_1_2 (maximumf (broadcastInDim S2x16x1024 ![] bcast_S_S2x16x1024 (constant S_ .f32 0xFF800000#32)) M))))

/-- The weighted sum of the values, the heads side by side. -/
def outT (v : FVec Ideal S2x1280x16x128 .f32) (e : FVec Ideal S2x16x1024x1280 .f32) : FVec Ideal S2048x2048 .bf16 :=
  truncf .bf16 (shapeCast _ (transpose S2x1024x16x128 [0, 3, 1, 2] (
  Host.dotGeneral (φ₁ := .f32) (φ₂ := .f32) dot_S2x1280x16x128_S2x16x1024x1280_S2x16x128x1024_1_3_3_2_02_01 none v
   (Host.divf e (broadcastInDim S2x16x1024x1280 ![0, 1, 2, 3] bcast_S2x16x1024x1_S2x16x1024x1280_0_1_2_3 (broadcastInDim S2x16x1024x1 ![0, 1, 2] bcast_S2x16x1024_S2x16x1024x1_0_1_2
     (Host.reduceAdd e (constant S_ .f32 0x00000000#32) reducesTo_S2x16x1024x1280_S2x16x1024_d3 h_S_))))) transposes_S2x16x128x1024_S2x1024x16x128_0_3_1_2) shapeCasts_S2x1024x16x128_S2048x2048) bitsLt_bf16_f32

theorem maxT_eq (s : FVec Ideal S2x16x1024x1280 .f32) (b : Fin 2) (h : Fin 16) (t : Fin 1024) :
    maxT s (ix3 b h t) = Finset.univ.fold max (Ideal.ofBits .f32 0xFF800000#32) fun k : Fin 1280 => s (ix4 b h t k) := by
  refine (Host.reduce_eq_fold (FloatOps.maximumf (F := Ideal) (φ := .f32)) _ _ _ _ _).trans ?_
  exact Shape.ReducesTo.fold_fiber_r4_a3 _ _ _ _ _

theorem expT_eq (s : FVec Ideal S2x16x1024x1280 .f32) (M : FVec Ideal S2x16x1024 .f32) (b : Fin 2) (j : Fin 1280) (h : Fin 16) (t : Fin 1024) :
    expT s M (ix4 b h t j) = Ideal.exp (s (ix4 b h t j) - max (Ideal.ofBits .f32 0xFF800000#32) (M (ix3 b h t))) := by
  pointwise [expT]

theorem outT_eq (v : FVec Ideal S2x1280x16x128 .f32) (e : FVec Ideal S2x16x1024x1280 .f32) (x : S2048x2048.Idx) :
    outT v e x = ∑ s : Fin 1280, v (ix4 (⟨(x 0).val / 1024, by have := (x 0).isLt; simp at this; omega⟩ : Fin 2) s (⟨(x 1).val / 128, by have := (x 1).isLt; simp at this; omega⟩ : Fin 16) (⟨(x 1).val % 128, by omega⟩ : Fin 128))
      * Ideal.div (e (ix4 (⟨(x 0).val / 1024, by have := (x 0).isLt; simp at this; omega⟩ : Fin 2) (⟨(x 1).val / 128, by have := (x 1).isLt; simp at this; omega⟩ : Fin 16) (⟨(x 0).val % 1024, by omega⟩ : Fin 1024) s))
        (∑ s : Fin 1280, e (ix4 (⟨(x 0).val / 1024, by have := (x 0).isLt; simp at this; omega⟩ : Fin 2) (⟨(x 1).val / 128, by have := (x 1).isLt; simp at this; omega⟩ : Fin 16) (⟨(x 0).val % 1024, by omega⟩ : Fin 1024) s)) := by
  pointwise [outT]

theorem valT_eq (kv : FVec Ideal S6656x4096 .bf16) (b : Fin 2) (s : Fin 1280) (h : Fin 16) (d : Fin 128) :
    valT kv (ix4 b s h d) = kvAt kv b s ⟨2048 + (h.val * 128 + d.val), by omega⟩ := by
  pointwise [valT, kvAt]

theorem scoreT_eq (q : FVec Ideal S6144x3072 .bf16) (qr : FVec Ideal S2048x1024 .bf16) (kv : FVec Ideal S6656x4096 .bf16) (kr : FVec Ideal S2048x64 .bf16) (cr : FVec Ideal S2x256x64 .f32) (b : Fin 2) (s : Fin 1280) (h : Fin 16) (t : Fin 1024) :
    scoreT q qr kv kr cr (ix4 b h t s)
      = score (fun k : Fin 128 => q (ix2 (⟨4096 + (b.val * 1024 + t.val), by omega⟩ : Fin 6144) (⟨h.val * 128 + k.val, by omega⟩ : Fin 3072)))
          (fun k => kvAt kv b s ⟨h.val * 128 + k.val, by omega⟩)
          (fun k : Fin 64 => qr (ix2 (⟨b.val * 1024 + t.val, by omega⟩ : Fin 2048) (⟨h.val * 64 + k.val, by omega⟩ : Fin 1024)))
          (fun k => krAt kr cr b s k) (Ideal.ofBits .f32 0x3D93CD3A#32) := by
  pointwise [scoreT, score, kvAt, krAt]

/-- Every element of the reference's array. -/
theorem res_eq (m : (ℓ : Loc nD τ sig) → Buf (Elt Ideal) ℓ) (c : Dev nD) :
    Cert.ReferenceIdeal.Value.res_out0 m c = fun x : S2048x2048.Idx =>
      out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (x 0) (x 1) := by
  show outT (valT (m ((c.tc : Thread nD τ).loc main_arg2))) (expT (scoreT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    (maxT (scoreT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))))) = _
  generalize m ((c.tc : Thread nD τ).loc main_arg0) = q
  generalize m ((c.tc : Thread nD τ).loc main_arg1) = qr
  generalize m ((c.tc : Thread nD τ).loc main_arg2) = kv
  generalize m ((c.tc : Thread nD τ).loc main_arg3) = kr
  generalize m ((c.tc : Thread nD τ).loc main_arg4) = cr
  funext x
  have hs : ∀ s : Fin 1280, scoreT q qr kv kr cr (ix4 (⟨(x 0).val / 1024, by have := (x 0).isLt; simp at this; omega⟩ : Fin 2) (⟨(x 1).val / 128, by have := (x 1).isLt; simp at this; omega⟩ : Fin 16) (⟨(x 0).val % 1024, by omega⟩ : Fin 1024) s)
      = sc q qr kv kr cr (x 0) ⟨(x 1).val / 128, by have := (x 1).isLt; simp at this; omega⟩ s := fun s => by
    have e : (x 0).val / 1024 * 1024 + (x 0).val % 1024 = (x 0).val := by omega
    rw [scoreT_eq]
    unfold sc
    simp only [e]
    rfl
  have hv : 2048 + ((x 1).val / 128 * 128 + (x 1).val % 128) = 2048 + (x 1).val := by omega
  rw [outT_eq]
  unfold out row
  simp only [expT_eq, maxT_eq, valT_eq, hs, ofBits_neg_inf, hv]

end Cert.MlaSample.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal.Run
public import proofs.«01_k».proof.Proof.MlaSampleKernel
public import proofs.«01_k».proof.Proof.OutProj
public import proofs.«01_k».proof.Proof.PeerQuery
public import proofs.«01_k».proof.Proof.ConvIn
public import proofs.«01_k».proof.Proof.GqaKv
public import proofs.«01_k».proof.Proof.GqaQuery
public import proofs.«01_k».proof.Proof.MlaDown
public import proofs.«01_k».proof.Proof.LastNormPrompt
public import proofs.«01_k».proof.Proof.LastNormSample
public import proofs.«01_k».proof.Proof.MlaQueryUp
public import proofs.«01_k».proof.Proof.MlaKvUp
public import proofs.«01_k».proof.Proof.ConvSample
public import proofs.«01_k».proof.Proof.ConvPrompt
public import proofs.«01_k».proof.Proof.GqaPromptKernel
public import proofs.«01_k».proof.Proof.GqaPromptRef
public import proofs.«01_k».proof.Proof.MlaPromptKernel
public import proofs.«01_k».proof.Proof.MlaPromptRef
public import proofs.«01_k».proof.Proof.PeerQuery0
public import proofs.«01_k».proof.Proof.PeerQuery1
public import proofs.«01_k».proof.Proof.PeerQuery2
public import proofs.«01_k».proof.Proof.MlaSampleRef
public import proofs.«01_k».proof.Proof.MlaSamplePre
public import Idealize.ShloMosaic.Adequacy
public import Idealize.ShloMosaic.Init

@[expose] public section

noncomputable section

namespace Cert.Proof

open Idealize.ShloMosaic Idealize.SL.Sem Cert.Kernel

instance : Cert.Pre_finite_scores.Facts := Cert.MlaSample.preFacts

/-- The attention of the sample group: the kernel's array is the reference's, where the scores' arguments are finite. -/
theorem mla_sample : Cert.algebraic_KernelIdeal_ReferenceIdeal_pre_finite_scores := by
  pair_intro
  · run_from Cert.KernelIdeal.Value.run_blocks m g
  · refine (θ_run _ _ _).mono (fun r h c => ⟨(h c).1.trans ?_, (h c).2⟩) (Cert.ReferenceIdeal.Value.run m' g')
    have e := Cert.MlaSample.Ref.res_eq m' c
    obtain ⟨a0, a1, a2, a3, a4⟩ := hagree c
    rw [a0, a1, a2, a3, a4] at e
    exact e.trans (Cert.MlaSample.Kern.final m c (Cert.MlaSample.finite_of_pre _ _ _ _ _ (hpre c))).symm

instance : Cert.Pre_finite_prompt_scores.Facts := Cert.MlaPrompt.preFacts

/-- The latent attention of the prompt rows, where the scores' arguments are finite. -/
theorem mla_prompt : Cert.algebraic_Kernel12Ideal_Reference12Ideal_pre_finite_prompt_scores := by
  pair_intro
  · run_from Cert.Kernel12Ideal.Value.run_blocks m g
  · refine (θ_run _ _ _).mono (fun r h c => ⟨(h c).1.trans ?_, (h c).2⟩) (Cert.Reference12Ideal.Value.run m' g')
    have e := Cert.MlaPrompt.Ref.res_eq m' c
    obtain ⟨a0, a1, a2⟩ := hagree c
    rw [a0, a1, a2] at e
    exact e.trans (Cert.MlaPrompt.Kern.final m c (Cert.MlaPrompt.finite_of_pre _ _ _ (hpre c))).symm

instance : Cert.Pre_finite_sink_scores.Facts := Cert.GqaPrompt.preFacts

/-- The grouped attention of the prompt rows, where the scores' arguments and the sinks are finite. -/
theorem gqa_prompt : Cert.algebraic_Kernel13Ideal_Reference13Ideal_pre_finite_sink_scores := by
  pair_intro
  · run_from Cert.Kernel13Ideal.Value.run_blocks m g
  · refine (θ_run _ _ _).mono (fun r h c => ⟨(h c).1.trans ?_, (h c).2⟩) (Cert.Reference13Ideal.Value.run m' g')
    have e := Cert.GqaPrompt.Ref.res_eq m' c
    obtain ⟨a0, a1, a2⟩ := hagree c
    rw [a0, a1, a2] at e
    exact e.trans (Cert.GqaPrompt.Kern.final m c (Cert.GqaPrompt.finite_of_pre _ _ _ (hpre c))).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.MlaSample.preFacts, Cert.MlaPrompt.preFacts, Cert.GqaPrompt.preFacts,
  fun m ρ _ => Cert.Kernel.Gen.frame m ρ, fun m ρ _ => Cert.KernelIdeal.Gen.frame m ρ, fun m ρ _ => Cert.KernelIdeal.Gen.frame m ρ,
  fun m ρ _ => (θ_run _ _ _).mono (fun _ h => ⟨fun c => (h c).2, sem_eq_zero_of_no_sems rfl _⟩) (Cert.ReferenceIdeal.Value.run m ρ),
  fun m ρ _ => (θ_run _ _ _).mono (fun _ h => ⟨fun c => (h c).2, sem_eq_zero_of_no_sems rfl _⟩) (Cert.ReferenceIdeal.Value.run m ρ),
  fun m ρ _ => Cert.Kernel2.Gen.frame m ρ, fun m ρ _ => Cert.Kernel2Ideal.Gen.frame m ρ,
  fun m ρ _ => (θ_run _ _ _).mono (fun _ h => ⟨fun c => (h c).2, sem_eq_zero_of_no_sems rfl _⟩) (Cert.Reference2Ideal.Value.run m ρ),
  fun m ρ _ => Cert.Kernel3.Gen.frame m ρ, fun m ρ _ => Cert.Kernel3Ideal.Gen.frame m ρ,
  fun m ρ _ => (θ_run _ _ _).mono (fun _ h => ⟨fun c => (h c).2, sem_eq_zero_of_no_sems rfl _⟩) (Cert.Reference3Ideal.Value.run m ρ),
  fun m ρ _ => Cert.Kernel4.Gen.frame m ρ, fun m ρ _ => Cert.Kernel4Ideal.Gen.frame m ρ,
  fun m ρ _ => (θ_run _ _ _).mono (fun _ h => ⟨fun c => (h c).2, sem_eq_zero_of_no_sems rfl _⟩) (Cert.Reference4Ideal.Value.run m ρ),
  fun m ρ _ => Cert.Kernel5.Gen.frame m ρ, fun m ρ _ => Cert.Kernel5Ideal.Gen.frame m ρ,
  fun m ρ _ => (θ_run _ _ _).mono (fun _ h => ⟨fun c => (h c).2, sem_eq_zero_of_no_sems rfl _⟩) (Cert.Reference5Ideal.Value.run m ρ),
  fun m ρ _ => Cert.Kernel6.Gen.frame m ρ, fun m ρ _ => Cert.Kernel6Ideal.Gen.frame m ρ,
  fun m ρ _ => (θ_run _ _ _).mono (fun _ h => ⟨fun c => (h c).2, sem_eq_zero_of_no_sems rfl _⟩) (Cert.Reference6Ideal.Value.run m ρ),
  fun m ρ _ => Cert.Kernel7.Gen.frame m ρ, fun m ρ _ => Cert.Kernel7Ideal.Gen.frame m ρ,
  fun m ρ _ => (θ_run _ _ _).mono (fun _ h => ⟨fun c => (h c).2.2.2, sem_eq_zero_of_no_sems rfl _⟩) (Cert.Reference7Ideal.Value.run m ρ),
  fun m ρ _ => Cert.Kernel8.Gen.frame m ρ, fun m ρ _ => Cert.Kernel8Ideal.Gen.frame m ρ,
  fun m ρ _ => (θ_run _ _ _).mono (fun _ h => ⟨fun c => (h c).2, sem_eq_zero_of_no_sems rfl _⟩) (Cert.Reference8Ideal.Value.run m ρ),
  fun m ρ _ => Cert.Kernel9.Gen.frame m ρ, fun m ρ _ => Cert.Kernel9Ideal.Gen.frame m ρ,
  fun m ρ _ => (θ_run _ _ _).mono (fun _ h => ⟨fun c => (h c).2, sem_eq_zero_of_no_sems rfl _⟩) (Cert.Reference9Ideal.Value.run m ρ),
  fun m ρ _ => Cert.Kernel10.Gen.frame m ρ, fun m ρ _ => Cert.Kernel10Ideal.Gen.frame m ρ,
  fun m ρ _ => (θ_run _ _ _).mono (fun _ h => ⟨fun c => (h c).2, sem_eq_zero_of_no_sems rfl _⟩) (Cert.Reference10Ideal.Value.run m ρ),
  fun m ρ _ => Cert.Kernel11.Gen.frame m ρ, fun m ρ _ => Cert.Kernel11Ideal.Gen.frame m ρ,
  fun m ρ _ => (θ_run _ _ _).mono (fun _ h => ⟨fun c => (h c).2, sem_eq_zero_of_no_sems rfl _⟩) (Cert.Reference11Ideal.Value.run m ρ),
  fun m ρ _ => Cert.Kernel12.Gen.frame m ρ, fun m ρ _ => Cert.Kernel12Ideal.Gen.frame m ρ, fun m ρ _ => Cert.Kernel12Ideal.Gen.frame m ρ,
  fun m ρ _ => (θ_run _ _ _).mono (fun _ h => ⟨fun c => (h c).2, sem_eq_zero_of_no_sems rfl _⟩) (Cert.Reference12Ideal.Value.run m ρ),
  fun m ρ _ => (θ_run _ _ _).mono (fun _ h => ⟨fun c => (h c).2, sem_eq_zero_of_no_sems rfl _⟩) (Cert.Reference12Ideal.Value.run m ρ),
  fun m ρ _ => Cert.Kernel13.Gen.frame m ρ, fun m ρ _ => Cert.Kernel13Ideal.Gen.frame m ρ, fun m ρ _ => Cert.Kernel13Ideal.Gen.frame m ρ,
  fun m ρ _ => (θ_run _ _ _).mono (fun _ h => ⟨fun c => (h c).2, sem_eq_zero_of_no_sems rfl _⟩) (Cert.Reference13Ideal.Value.run m ρ),
  fun m ρ _ => (θ_run _ _ _).mono (fun _ h => ⟨fun c => (h c).2, sem_eq_zero_of_no_sems rfl _⟩) (Cert.Reference13Ideal.Value.run m ρ),
  fun m ρ _ => Cert.Kernel14.Gen.frame m ρ, fun m ρ _ => Cert.Kernel14Ideal.Gen.frame m ρ,
  fun m ρ _ => (θ_run _ _ _).mono (fun _ h => ⟨fun c => (h c).2, sem_eq_zero_of_no_sems rfl _⟩) (Cert.Reference14Ideal.Value.run m ρ),
  fun m ρ _ => Cert.Kernel15.Gen.frame m ρ, fun m ρ _ => Cert.Kernel15Ideal.Gen.frame m ρ,
  fun m ρ _ => (θ_run _ _ _).mono (fun _ h => ⟨fun c => (h c).2, sem_eq_zero_of_no_sems rfl _⟩) (Cert.Reference15Ideal.Value.run m ρ),
  fun m ρ _ => Cert.Kernel16.Gen.frame m ρ, fun m ρ _ => Cert.Kernel16Ideal.Gen.frame m ρ,
  fun m ρ _ => (θ_run _ _ _).mono (fun _ h => ⟨fun c => (h c).2, sem_eq_zero_of_no_sems rfl _⟩) (Cert.Reference16Ideal.Value.run m ρ),
  fun m ρ _ => Cert.Kernel17.Gen.frame m ρ, fun m ρ _ => Cert.Kernel17Ideal.Gen.frame m ρ,
  fun m ρ _ => (θ_run _ _ _).mono (fun _ h => ⟨fun c => (h c).2, sem_eq_zero_of_no_sems rfl _⟩) (Cert.Reference17Ideal.Value.run m ρ),
  fun m ρ _ => Cert.Kernel18.Gen.frame m ρ, fun m ρ _ => Cert.Kernel18Ideal.Gen.frame m ρ,
  fun m ρ _ => (θ_run _ _ _).mono (fun _ h => ⟨fun c => (h c).2, sem_eq_zero_of_no_sems rfl _⟩) (Cert.Reference18Ideal.Value.run m ρ),
  trivial, mla_sample, trivial, Cert.OutProj.equal, trivial, Cert.PeerQuery.equal, trivial, Cert.ConvIn.equal, trivial, Cert.GqaKv.equal,
  trivial, Cert.GqaQuery.equal, trivial, Cert.MlaDown.equal, trivial, Cert.LastNormPrompt.equal, trivial, Cert.LastNormSample.equal, trivial, Cert.MlaQueryUp.equal, trivial, Cert.MlaKvUp.equal,
  trivial, mla_prompt, trivial, gqa_prompt, trivial, Cert.ConvPrompt.equal, trivial, Cert.ConvSample.equal,
  trivial, Cert.PeerQuery0.equal, trivial, Cert.PeerQuery1.equal, trivial, Cert.PeerQuery2.equal⟩

end Cert.Proof

end
